-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S3x256x768 : Shape := ⟨3, ![3, 256, 768]⟩
abbrev S8x768 : Shape := ⟨2, ![8, 768]⟩
abbrev S3x8x768 : Shape := ⟨3, ![3, 8, 768]⟩
abbrev S8x768x3072 : Shape := ⟨3, ![8, 768, 3072]⟩
abbrev S8x3072 : Shape := ⟨2, ![8, 3072]⟩
abbrev S8x3072x768 : Shape := ⟨3, ![8, 3072, 768]⟩
abbrev S_ : Shape := ⟨0, ![]⟩

class Facts : Prop where
  bcast_S_S3x256x768 : S_.BroadcastsInDim S3x256x768 (![] : Fin 0 → Fin S3x256x768.rank)
  reducesTo_S3x256x768_S_d0_1_2 : S3x256x768.ReducesTo [0, 1, 2] S_
  h_S_ : 0 < S_.numel
  bcast_S_S8x768 : S_.BroadcastsInDim S8x768 (![] : Fin 0 → Fin S8x768.rank)
  reducesTo_S8x768_S_d0_1 : S8x768.ReducesTo [0, 1] S_
  bcast_S_S3x8x768 : S_.BroadcastsInDim S3x8x768 (![] : Fin 0 → Fin S3x8x768.rank)
  reducesTo_S3x8x768_S_d0_1_2 : S3x8x768.ReducesTo [0, 1, 2] S_
  bcast_S_S8x3072 : S_.BroadcastsInDim S8x3072 (![] : Fin 0 → Fin S8x3072.rank)
  reducesTo_S8x3072_S_d0_1 : S8x3072.ReducesTo [0, 1] S_

variable [Facts]

def fn_part1 {F : FTy → Type} [FloatOps F] (main_arg6 : FVec F S8x768 .f32) (main_v13 : IVec S_ 1) (main_v15 : IVec S8x3072 1) (main_c_5 : IVec S_ 1) : IVec S_ 1 :=
  let main_v16 : IVec S_ 1 := (fun x v => Host.reduce IntOp.andi x v reducesTo_S8x3072_S_d0_1 h_S_) main_v15 main_c_5
  let main_v17 : IVec S_ 1 := andi main_v13 main_v16
  let main_cst_6 : FVec F S_ .f32 := constant S_ .f32 0x00000000#32
  let main_v18 : FVec F S8x768 .f32 := broadcastInDim S8x768 ![] bcast_S_S8x768 main_cst_6
  let main_v19 : IVec S8x768 1 := cmpf .oeq main_arg6 main_v18
  let main_c_7 : IVec S_ 1 := constantI S_ 1 1#1
  let main_v20 : IVec S_ 1 := (fun x v => Host.reduce IntOp.andi x v reducesTo_S8x768_S_d0_1 h_S_) main_v19 main_c_7
  let main_v21 : IVec S_ 1 := andi main_v17 main_v20
  main_v21

def fn {F : FTy → Type} [FloatOps F] (main_arg0 : FVec F S3x256x768 .f32) (main_arg1 : FVec F S8x768 .f32) (main_arg2 : FVec F S3x8x768 .f32) (main_arg3 : FVec F S8x768x3072 .f32) (main_arg4 : FVec F S8x3072 .f32) (main_arg5 : FVec F S8x3072x768 .f32) (main_arg6 : FVec F S8x768 .f32) : IVec S_ 1 :=
  let main_v0 : FVec F S3x256x768 .f32 := Host.absf main_arg0
  let main_cst : FVec F S_ .f32 := constant S_ .f32 0x7F800000#32
  let main_v1 : FVec F S3x256x768 .f32 := broadcastInDim S3x256x768 ![] bcast_S_S3x256x768 main_cst
  let main_v2 : IVec S3x256x768 1 := cmpf .olt main_v0 main_v1
  let main_c : IVec S_ 1 := constantI S_ 1 1#1
  let main_v3 : IVec S_ 1 := (fun x v => Host.reduce IntOp.andi x v reducesTo_S3x256x768_S_d0_1_2 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  let main_v9 : FVec F S3x8x768 .f32 := Host.absf main_arg2
  let main_cst_2 : FVec F S_ .f32 := constant S_ .f32 0x7F800000#32
  let main_v10 : FVec F S3x8x768 .f32 := broadcastInDim S3x8x768 ![] bcast_S_S3x8x768 main_cst_2
  let main_v11 : IVec S3x8x768 1 := cmpf .olt main_v9 main_v10
  let main_c_3 : IVec S_ 1 := constantI S_ 1 1#1
  let main_v12 : IVec S_ 1 := (fun x v => Host.reduce IntOp.andi x v reducesTo_S3x8x768_S_d0_1_2 h_S_) main_v11 main_c_3
  let main_v13 : IVec S_ 1 := andi main_v8 main_v12
  let main_cst_4 : FVec F S_ .f32 := constant S_ .f32 0x00000000#32
  let main_v14 : FVec F S8x3072 .f32 := broadcastInDim S8x3072 ![] bcast_S_S8x3072 main_cst_4
  let main_v15 : IVec S8x3072 1 := cmpf .oeq main_arg4 main_v14
  let main_c_5 : IVec S_ 1 := constantI S_ 1 1#1
  fn_part1 (F := F) main_arg6 main_v13 main_v15 main_c_5
-- ==== Kernel.lean ====
abbrev S3x256x768 : Shape := ⟨3, ![3, 256, 768]⟩
abbrev S8x768 : Shape := ⟨2, ![8, 768]⟩
abbrev S3x8x768 : Shape := ⟨3, ![3, 8, 768]⟩
abbrev S8x768x3072 : Shape := ⟨3, ![8, 768, 3072]⟩
abbrev S8x3072 : Shape := ⟨2, ![8, 3072]⟩
abbrev S8x3072x768 : Shape := ⟨3, ![8, 3072, 768]⟩
abbrev S768x768 : Shape := ⟨2, ![768, 768]⟩
abbrev S24x768 : Shape := ⟨2, ![24, 768]⟩
abbrev S8x1x768 : Shape := ⟨3, ![8, 1, 768]⟩
abbrev S1x256x8 : Shape := ⟨3, ![1, 256, 8]⟩
abbrev S8x1x128 : Shape := ⟨3, ![8, 1, 128]⟩
abbrev S768 : Shape := ⟨1, ![768]⟩
abbrev S768x1 : Shape := ⟨2, ![768, 1]⟩
abbrev S8 : Shape := ⟨1, ![8]⟩
abbrev S1x8 : Shape := ⟨2, ![1, 8]⟩
abbrev S768x8 : Shape := ⟨2, ![768, 8]⟩
abbrev S768x24 : Shape := ⟨2, ![768, 24]⟩
abbrev S1x768 : Shape := ⟨2, ![1, 768]⟩
abbrev S768x256 : Shape := ⟨2, ![768, 256]⟩
abbrev S1x256 : Shape := ⟨2, ![1, 256]⟩
abbrev S8x256 : Shape := ⟨2, ![8, 256]⟩
abbrev S256x8 : Shape := ⟨2, ![256, 8]⟩
abbrev S8x1x1 : Shape := ⟨3, ![8, 1, 1]⟩
abbrev S8x256x1 : Shape := ⟨3, ![8, 256, 1]⟩
abbrev S256x768 : Shape := ⟨2, ![256, 768]⟩
abbrev S1x768x1536 : Shape := ⟨3, ![1, 768, 1536]⟩
abbrev S1x1536x768 : Shape := ⟨3, ![1, 1536, 768]⟩
abbrev S1x256x1 : Shape := ⟨3, ![1, 256, 1]⟩
abbrev S1x1x128 : Shape := ⟨3, ![1, 1, 128]⟩
abbrev S1x1x768 : Shape := ⟨3, ![1, 1, 768]⟩
abbrev S256x256 : Shape := ⟨2, ![256, 256]⟩
abbrev S1x1x1 : Shape := ⟨3, ![1, 1, 1]⟩
abbrev S256x1 : Shape := ⟨2, ![256, 1]⟩
abbrev S768x1536 : Shape := ⟨2, ![768, 1536]⟩
abbrev S256x1536 : Shape := ⟨2, ![256, 1536]⟩
abbrev S1536x768 : Shape := ⟨2, ![1536, 768]⟩

abbrev nBuf : Space → Nat
  | .hbm => 25
  | .vmem => 26
  | .smem => 0
  | _ => 0

abbrev bufTy : (tb : Table) → Fin (tcTables nBuf tb) → BufTy
  | .hbm, ⟨0, _⟩ => ⟨S3x256x768, .f32⟩
  | .hbm, ⟨1, _⟩ => ⟨S8x768, .f32⟩
  | .hbm, ⟨2, _⟩ => ⟨S3x8x768, .f32⟩
  | .hbm, ⟨3, _⟩ => ⟨S8x768x3072, .f32⟩
  | .hbm, ⟨4, _⟩ => ⟨S8x3072, .f32⟩
  | .hbm, ⟨5, _⟩ => ⟨S8x3072x768, .f32⟩
  | .hbm, ⟨6, _⟩ => ⟨S8x768, .f32⟩
  | .hbm, ⟨7, _⟩ => ⟨S768x768, .f32⟩
  | .hbm, ⟨8, _⟩ => ⟨S24x768, .f32⟩
  | .hbm, ⟨9, _⟩ => ⟨S8x1x768, .f32⟩
  | .hbm, ⟨10, _⟩ => ⟨S1x256x8, .f32⟩
  | .hbm, ⟨11, _⟩ => ⟨S1x256x8, .f32⟩
  | .hbm, ⟨12, _⟩ => ⟨S1x256x8, .f32⟩
  | .hbm, ⟨13, _⟩ => ⟨S8x1x128, .f32⟩
  | .hbm, ⟨14, _⟩ => ⟨S256x8, .f32⟩
  | .hbm, ⟨15, _⟩ => ⟨S8x256, .f32⟩
  | .hbm, ⟨16, _⟩ => ⟨S8x256x1, .f32⟩
  | .hbm, ⟨17, _⟩ => ⟨S256x8, .f32⟩
  | .hbm, ⟨18, _⟩ => ⟨S8x256, .f32⟩
  | .hbm, ⟨19, _⟩ => ⟨S8x256x1, .f32⟩
  | .hbm, ⟨20, _⟩ => ⟨S256x8, .f32⟩
  | .hbm, ⟨21, _⟩ => ⟨S8x256, .f32⟩
  | .hbm, ⟨22, _⟩ => ⟨S8x256x1, .f32⟩
  | .hbm, ⟨23, _⟩ => ⟨S768x768, .bf16⟩
  | .hbm, ⟨24, _⟩ => ⟨S256x768, .f32⟩
  | .local _ .vmem, ⟨0, _⟩ => ⟨S768x768, .f32⟩
  | .local _ .vmem, ⟨1, _⟩ => ⟨S8x768, .f32⟩
  | .local _ .vmem, ⟨2, _⟩ => ⟨S24x768, .f32⟩
  | .local _ .vmem, ⟨3, _⟩ => ⟨S8x1x768, .f32⟩
  | .local _ .vmem, ⟨4, _⟩ => ⟨S1x256x8, .f32⟩
  | .local _ .vmem, ⟨5, _⟩ => ⟨S1x256x8, .f32⟩
  | .local _ .vmem, ⟨6, _⟩ => ⟨S1x256x8, .f32⟩
  | .local _ .vmem, ⟨7, _⟩ => ⟨S8x1x128, .f32⟩
  | .local _ .vmem, ⟨8, _⟩ => ⟨S768x768, .bf16⟩
  | .local _ .vmem, ⟨9, _⟩ => ⟨S1x768x1536, .f32⟩
  | .local _ .vmem, ⟨10, _⟩ => ⟨S1x768x1536, .f32⟩
  | .local _ .vmem, ⟨11, _⟩ => ⟨S1x1536x768, .f32⟩
  | .local _ .vmem, ⟨12, _⟩ => ⟨S1x1536x768, .f32⟩
  | .local _ .vmem, ⟨13, _⟩ => ⟨S1x256x1, .f32⟩
  | .local _ .vmem, ⟨14, _⟩ => ⟨S1x256x1, .f32⟩
  | .local _ .vmem, ⟨15, _⟩ => ⟨S1x256x1, .f32⟩
  | .local _ .vmem, ⟨16, _⟩ => ⟨S1x256x1, .f32⟩
  | .local _ .vmem, ⟨17, _⟩ => ⟨S1x256x1, .f32⟩
  | .local _ .vmem, ⟨18, _⟩ => ⟨S1x256x1, .f32⟩
  | .local _ .vmem, ⟨19, _⟩ => ⟨S1x1x128, .f32⟩
  | .local _ .vmem, ⟨20, _⟩ => ⟨S1x1x128, .f32⟩
  | .local _ .vmem, ⟨21, _⟩ => ⟨S1x1x768, .f32⟩
  | .local _ .vmem, ⟨22, _⟩ => ⟨S1x1x768, .f32⟩
  | .local _ .vmem, ⟨23, _⟩ => ⟨S256x768, .f32⟩
  | .local _ .vmem, ⟨24, _⟩ => ⟨S256x768, .bf16⟩
  | .local _ .vmem, ⟨25, _⟩ => ⟨S256x256, .f32⟩
  | _, _ => ⟨S3x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S768x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x768x1536 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1536x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x1x768 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 1 → Memref sig .tc .vmem S256x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]
-- ==== ReferenceIdeal.lean ====
abbrev S3x256x768 : Shape := ⟨3, ![3, 256, 768]⟩
abbrev S8x768 : Shape := ⟨2, ![8, 768]⟩
abbrev S3x8x768 : Shape := ⟨3, ![3, 8, 768]⟩
abbrev S8x768x3072 : Shape := ⟨3, ![8, 768, 3072]⟩
abbrev S8x3072 : Shape := ⟨2, ![8, 3072]⟩
abbrev S8x3072x768 : Shape := ⟨3, ![8, 3072, 768]⟩
abbrev S_ : Shape := ⟨0, ![]⟩
abbrev S3x256 : Shape := ⟨2, ![3, 256]⟩
abbrev S3x256x1 : Shape := ⟨3, ![3, 256, 1]⟩
abbrev S8 : Shape := ⟨1, ![8]⟩
abbrev S1x1x8 : Shape := ⟨3, ![1, 1, 8]⟩
abbrev S3x256x8 : Shape := ⟨3, ![3, 256, 8]⟩
abbrev S3x256x2 : Shape := ⟨3, ![3, 256, 2]⟩
abbrev S3x256x2x1 : Shape := ⟨4, ![3, 256, 2, 1]⟩
abbrev S1x1x1x8 : Shape := ⟨4, ![1, 1, 1, 8]⟩
abbrev S3x256x2x8 : Shape := ⟨4, ![3, 256, 2, 8]⟩
abbrev S8x3072x3x256 : Shape := ⟨4, ![8, 3072, 3, 256]⟩
abbrev S3x8x256x3072 : Shape := ⟨4, ![3, 8, 256, 3072]⟩
abbrev S1x8x1x3072 : Shape := ⟨4, ![1, 8, 1, 3072]⟩
abbrev S8x768x3x256 : Shape := ⟨4, ![8, 768, 3, 256]⟩
abbrev S3x8x256x768 : Shape := ⟨4, ![3, 8, 256, 768]⟩
abbrev S1x8x1x768 : Shape := ⟨4, ![1, 8, 1, 768]⟩
abbrev S3x8x256 : Shape := ⟨3, ![3, 8, 256]⟩
abbrev S3x8x256x1 : Shape := ⟨4, ![3, 8, 256, 1]⟩
abbrev S256x768 : Shape := ⟨2, ![256, 768]⟩

abbrev nBuf : Space → Nat
  | .hbm => 81
  | .vmem => 0
  | .smem => 0
  | _ => 0

abbrev bufTy : (tb : Table) → Fin (tcTables nBuf tb) → BufTy
  | .hbm, ⟨0, _⟩ => ⟨S3x256x768, .f32⟩
  | .hbm, ⟨1, _⟩ => ⟨S8x768, .f32⟩
  | .hbm, ⟨2, _⟩ => ⟨S3x8x768, .f32⟩
  | .hbm, ⟨3, _⟩ => ⟨S8x768x3072, .f32⟩
  | .hbm, ⟨4, _⟩ => ⟨S8x3072, .f32⟩
  | .hbm, ⟨5, _⟩ => ⟨S8x3072x768, .f32⟩
  | .hbm, ⟨6, _⟩ => ⟨S8x768, .f32⟩
  | .hbm, ⟨7, _⟩ => ⟨S3x256x768, .f32⟩
  | .hbm, ⟨8, _⟩ => ⟨S_, .f32⟩
  | .hbm, ⟨9, _⟩ => ⟨S3x256, .f32⟩
  | .hbm, ⟨10, _⟩ => ⟨S3x256x1, .f32⟩
  | .hbm, ⟨11, _⟩ => ⟨S8x768, .f32⟩
  | .hbm, ⟨12, _⟩ => ⟨S_, .f32⟩
  | .hbm, ⟨13, _⟩ => ⟨S8, .f32⟩
  | .hbm, ⟨14, _⟩ => ⟨S1x1x8, .f32⟩
  | .hbm, ⟨15, _⟩ => ⟨S3x256x8, .f32⟩
  | .hbm, ⟨16, _⟩ => ⟨S3x256x8, .f32⟩
  | .hbm, ⟨17, _⟩ => ⟨S3x256x8, .f32⟩
  | .hbm, ⟨18, _⟩ => ⟨S3x256x8, .f32⟩
  | .hbm, ⟨19, _⟩ => ⟨S_, .f32⟩
  | .hbm, ⟨20, _⟩ => ⟨S3x256x8, .f32⟩
  | .hbm, ⟨21, _⟩ => ⟨S3x256x8, .f32⟩
  | .hbm, ⟨22, _⟩ => ⟨S3x256x8, .f32⟩
  | .hbm, ⟨23, _⟩ => ⟨S_, .f32⟩
  | .hbm, ⟨24, _⟩ => ⟨S3x256x8, .f32⟩
  | .hbm, ⟨25, _⟩ => ⟨S3x256x8, .f32⟩
  | .hbm, ⟨26, _⟩ => ⟨S3x256x8, .f32⟩
  | .hbm, ⟨27, _⟩ => ⟨S3x256x8, .f32⟩
  | .hbm, ⟨28, _⟩ => ⟨S3x256x8, .f32⟩
  | .hbm, ⟨29, _⟩ => ⟨S3x256x2, .f32⟩
  | .hbm, ⟨30, _⟩ => ⟨S3x256x2, .i32⟩
  | .hbm, ⟨31, _⟩ => ⟨S_, .f32⟩
  | .hbm, ⟨32, _⟩ => ⟨S3x256, .f32⟩
  | .hbm, ⟨33, _⟩ => ⟨S3x256x1, .f32⟩
  | .hbm, ⟨34, _⟩ => ⟨S3x256x2, .f32⟩
  | .hbm, ⟨35, _⟩ => ⟨S3x256x2, .f32⟩
  | .hbm, ⟨36, _⟩ => ⟨S3x256x2, .f32⟩
  | .hbm, ⟨37, _⟩ => ⟨S_, .f32⟩
  | .hbm, ⟨38, _⟩ => ⟨S3x256, .f32⟩
  | .hbm, ⟨39, _⟩ => ⟨S3x256x1, .f32⟩
  | .hbm, ⟨40, _⟩ => ⟨S3x256x1, .f32⟩
  | .hbm, ⟨41, _⟩ => ⟨S3x256x1, .f32⟩
  | .hbm, ⟨42, _⟩ => ⟨S3x256x2, .f32⟩
  | .hbm, ⟨43, _⟩ => ⟨S3x256x2, .f32⟩
  | .hbm, ⟨44, _⟩ => ⟨S3x256x2, .f32⟩
  | .hbm, ⟨45, _⟩ => ⟨S3x256x2x1, .i32⟩
  | .hbm, ⟨46, _⟩ => ⟨S1x1x1x8, .i32⟩
  | .hbm, ⟨47, _⟩ => ⟨S3x256x2x8, .i32⟩
  | .hbm, ⟨48, _⟩ => ⟨S3x256x2x8, .i32⟩
  | .hbm, ⟨49, _⟩ => ⟨S3x256x2x8, .i1⟩
  | .hbm, ⟨50, _⟩ => ⟨S3x256x2x8, .f32⟩
  | .hbm, ⟨51, _⟩ => ⟨S3x256x2x1, .f32⟩
  | .hbm, ⟨52, _⟩ => ⟨S3x256x2x8, .f32⟩
  | .hbm, ⟨53, _⟩ => ⟨S3x256x2x8, .f32⟩
  | .hbm, ⟨54, _⟩ => ⟨S_, .f32⟩
  | .hbm, ⟨55, _⟩ => ⟨S3x256x8, .f32⟩
  | .hbm, ⟨56, _⟩ => ⟨S8x3072x3x256, .f32⟩
  | .hbm, ⟨57, _⟩ => ⟨S3x8x256x3072, .f32⟩
  | .hbm, ⟨58, _⟩ => ⟨S1x8x1x3072, .f32⟩
  | .hbm, ⟨59, _⟩ => ⟨S3x8x256x3072, .f32⟩
  | .hbm, ⟨60, _⟩ => ⟨S3x8x256x3072, .f32⟩
  | .hbm, ⟨61, _⟩ => ⟨S_, .f32⟩
  | .hbm, ⟨62, _⟩ => ⟨S3x8x256x3072, .f32⟩
  | .hbm, ⟨63, _⟩ => ⟨S3x8x256x3072, .f32⟩
  | .hbm, ⟨64, _⟩ => ⟨S3x8x256x3072, .f32⟩
  | .hbm, ⟨65, _⟩ => ⟨S_, .f32⟩
  | .hbm, ⟨66, _⟩ => ⟨S3x8x256x3072, .f32⟩
  | .hbm, ⟨67, _⟩ => ⟨S3x8x256x3072, .f32⟩
  | .hbm, ⟨68, _⟩ => ⟨S3x8x256x3072, .f32⟩
  | .hbm, ⟨69, _⟩ => ⟨S3x8x256x3072, .f32⟩
  | .hbm, ⟨70, _⟩ => ⟨S8x768x3x256, .f32⟩
  | .hbm, ⟨71, _⟩ => ⟨S3x8x256x768, .f32⟩
  | .hbm, ⟨72, _⟩ => ⟨S1x8x1x768, .f32⟩
  | .hbm, ⟨73, _⟩ => ⟨S3x8x256x768, .f32⟩
  | .hbm, ⟨74, _⟩ => ⟨S3x8x256x768, .f32⟩
  | .hbm, ⟨75, _⟩ => ⟨S3x8x256, .f32⟩
  | .hbm, ⟨76, _⟩ => ⟨S3x8x256x1, .f32⟩
  | .hbm, ⟨77, _⟩ => ⟨S3x8x256x768, .f32⟩
  | .hbm, ⟨78, _⟩ => ⟨S3x8x256x768, .f32⟩
  | .hbm, ⟨79, _⟩ => ⟨S_, .f32⟩
  | .hbm, ⟨80, _⟩ => ⟨S256x768, .f32⟩
  | _, _ => ⟨S3x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_values : Ref sig .tc := ⟨.hbm, 29, rfl⟩
abbrev main_indices : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩

abbrev nD : Nat := 1
abbrev τ : Topo := Topo.v7x

variable {F : FTy → Type} [FloatOps F]
-- ==== Proof.Ideal.Router.lean ====
/- The router region: what its body leaves in each output buffer, and its triple at any point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0__router_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S768x768 := Rect.unit (s := S768x768) ![0, 0] S768x768.size inb_S768x768_S768x768_0_0
abbrev r0_1 : Rect S8x768 := Rect.unit (s := S8x768) ![0, 0] S8x768.size inb_S8x768_S8x768_0_0
abbrev r0_2 : Rect S24x768 := Rect.unit (s := S24x768) ![0, 0] S24x768.size inb_S24x768_S24x768_0_0
abbrev r0_3 : Rect S8x1x768 := Rect.unit (s := S8x1x768) ![0, 0, 0] S8x1x768.size inb_S8x1x768_S8x1x768_0_0_0
abbrev r0_4 : Rect S1x256x8 := Rect.unit (s := S1x256x8) ![0, 0, 0] S1x256x8.size inb_S1x256x8_S1x256x8_0_0_0
abbrev r0_5 : Rect S8x1x128 := Rect.unit (s := S8x1x128) ![0, 0, 0] S8x1x128.size inb_S8x1x128_S8x1x128_0_0_0

/-! ## What the body leaves in each output window's buffer -/

/-! ### Values of the body that more than one store uses; the comment after each is its printed name -/

def k0_pay61 (x0 : Vec F S768x768 .f32) (x1 : Vec F S8x768 .f32) (x2 : Vec F S24x768 .f32) : IVec S768x24 32 :=
  iota .tc S768x24 32 [0] iota_S768x24_d0_w32 -- `v21`
def k0_pay62 (x0 : Vec F S768x768 .f32) (x1 : Vec F S8x768 .f32) (x2 : Vec F S24x768 .f32) : FVec F S768x8 .f32 :=
  k0_pay6 (View.ld x0 r0_0) (View.ld x1 r0_1) -- `v17`
def k0_pay63 (x0 : Vec F S768x768 .f32) (x1 : Vec F S8x768 .f32) (x2 : Vec F S24x768 .f32) : FVec F S768x24 .f32 :=
  k0_pay7 (View.ld x0 r0_0) (View.ld x2 r0_2) -- `v20`
def k0_pay64 (x0 : Vec F S768x768 .f32) (x1 : Vec F S8x768 .f32) (x2 : Vec F S24x768 .f32) : IVec S768x24 32 :=
  k0_pay8 -- `v24`
def k0_pay65 (x0 : Vec F S768x768 .f32) (x1 : Vec F S8x768 .f32) (x2 : Vec F S24x768 .f32) : IVec S768x24 1 :=
  k0_pay9 -- `v38`
def k0_pay66 (x0 : Vec F S768x768 .f32) (x1 : Vec F S8x768 .f32) (x2 : Vec F S24x768 .f32) : IVec S768x24 32 :=
  k0_pay10 -- `v40`
def k0_pay67 (x0 : Vec F S768x768 .f32) (x1 : Vec F S8x768 .f32) (x2 : Vec F S24x768 .f32) : IVec S768x8 32 :=
  iota .tc S768x8 32 [1] iota_S768x8_d1_w32 -- `v84`
def k0_pay68 (x0 : Vec F S768x768 .f32) (x1 : Vec F S8x768 .f32) (x2 : Vec F S24x768 .f32) : FVec F S768x8 .f32 :=
  k0_pay11 (k0_pay62 x0 x1 x2) (k0_pay63 x0 x1 x2) (k0_pay61 x0 x1 x2) (k0_pay64 x0 x1 x2) (k0_pay65 x0 x1 x2) (k0_pay66 x0 x1 x2) 0#32 -- `v83`
def k0_pay69 (x0 : Vec F S768x768 .f32) (x1 : Vec F S8x768 .f32) (x2 : Vec F S24x768 .f32) : FVec F S768x1 .f32 :=
  k0_pay12 (k0_pay62 x0 x1 x2) (k0_pay63 x0 x1 x2) (k0_pay61 x0 x1 x2) (k0_pay64 x0 x1 x2) (k0_pay65 x0 x1 x2) (k0_pay66 x0 x1 x2) 0#32 -- `v86`
def k0_pay70 (x0 : Vec F S768x768 .f32) (x1 : Vec F S8x768 .f32) (x2 : Vec F S24x768 .f32) : IVec S768x8 1 :=
  k0_pay13 (k0_pay62 x0 x1 x2) (k0_pay63 x0 x1 x2) (k0_pay61 x0 x1 x2) (k0_pay64 x0 x1 x2) (k0_pay65 x0 x1 x2) (k0_pay66 x0 x1 x2) 0#32 -- `v88`
def k0_pay71 (x0 : Vec F S768x768 .f32) (x1 : Vec F S8x768 .f32) (x2 : Vec F S24x768 .f32) : FVec F S8x768 .f32 :=
  k0_pay15 (k0_pay68 x0 x1 x2) (k0_pay67 x0 x1 x2) (k0_pay69 x0 x1 x2) (k0_pay70 x0 x1 x2) -- `v125`
def k0_pay72 (x0 : Vec F S768x768 .f32) (x1 : Vec F S8x768 .f32) (x2 : Vec F S24x768 .f32) : FVec F S768x8 .bf16 :=
  k0_pay17 (k0_pay68 x0 x1 x2) (k0_pay67 x0 x1 x2) (k0_pay69 x0 x1 x2) (k0_pay70 x0 x1 x2) -- `v132`
def k0_pay73 (x0 : Vec F S768x768 .f32) (x1 : Vec F S8x768 .f32) (x2 : Vec F S24x768 .f32) : FVec F S768x8 .f32 :=
  k0_pay18 (k0_pay72 x0 x1 x2) -- `v139`
def k0_pay74 (x0 : Vec F S768x768 .f32) (x1 : Vec F S8x768 .f32) (x2 : Vec F S24x768 .f32) : FVec F S1x768 .bf16 :=
  k0_pay21 (F := F) -- `v147`
def k0_pay75 (x0 : Vec F S768x768 .f32) (x1 : Vec F S8x768 .f32) (x2 : Vec F S24x768 .f32) : FVec F S1x768 .bf16 :=
  k0_pay22 (F := F) -- `v154`
def k0_pay76 (x0 : Vec F S768x768 .f32) (x1 : Vec F S8x768 .f32) (x2 : Vec F S24x768 .f32) : FVec F S8x768 .bf16 :=
  k0_pay23 (k0_pay71 x0 x1 x2) -- `v155`
def k0_pay77 (x0 : Vec F S768x768 .f32) (x1 : Vec F S8x768 .f32) (x2 : Vec F S24x768 .f32) : FVec F S8x768 .bf16 :=
  k0_pay24 (k0_pay71 x0 x1 x2) -- `v158`
def k0_pay78 (x0 : Vec F S768x768 .f32) (x1 : Vec F S8x768 .f32) (x2 : Vec F S24x768 .f32) : FVec F S768x256 .f32 :=
  k0_pay25 (F := F) -- `v160`
def k0_pay79 (x0 : Vec F S768x768 .f32) (x1 : Vec F S8x768 .f32) (x2 : Vec F S24x768 .f32) : IVec S768x256 1 :=
  k0_pay38 (k0_pay73 x0 x1 x2) (k0_pay78 x0 x1 x2) -- `v226`
def k0_pay80 (x0 : Vec F S768x768 .f32) (x1 : Vec F S8x768 .f32) (x2 : Vec F S24x768 .f32) : FVec F S768x1 .bf16 :=
  k0_pay39 (k0_pay72 x0 x1 x2) -- `v227`
def k0_pay81 (x0 : Vec F S768x768 .f32) (x1 : Vec F S8x768 .f32) (x2 : Vec F S24x768 .f32) : FVec F S768x1 .bf16 :=
  k0_pay40 (F := F) -- `v228`
def k0_pay82 (x0 : Vec F S768x768 .f32) (x1 : Vec F S8x768 .f32) (x2 : Vec F S24x768 .f32) : FVec F S768x256 .bf16 :=
  k0_pay49 (k0_pay72 x0 x1 x2) (k0_pay73 x0 x1 x2) (k0_pay78 x0 x1 x2) -- `v276`
def k0_pay83 (x0 : Vec F S768x768 .f32) (x1 : Vec F S8x768 .f32) (x2 : Vec F S24x768 .f32) : FVec F S1x256 .f32 :=
  k0_pay59 (k0_pay72 x0 x1 x2) (k0_pay73 x0 x1 x2) (k0_pay75 x0 x1 x2) (k0_pay78 x0 x1 x2) -- `v320`

/-- Window 3's staging buffer after the body, from the input windows' blocks: its 1 store as pieces, LAST
    FIRST. -/
def out0_3 (x0 : Vec F S768x768 .f32) (x1 : Vec F S8x768 .f32) (x2 : Vec F S24x768 .f32) : Vec F S8x1x768 .f32 :=
  View.canon [⟨r0_3, k0_pay16 (k0_pay68 x0 x1 x2) (k0_pay67 x0 x1 x2) (k0_pay69 x0 x1 x2) (k0_pay70 x0 x1 x2)⟩]

/-- Its stores tile the buffer (checked by evaluation), so they cover it. -/
theorem cover0_3 (p0 : Vec F S8x1x768 .f32) (y : S8x1x768.Idx) :
    ∃ pc ∈ ([⟨r0_3, p0⟩] : List (View.Piece (Elt F) S8x1x768 .f32)), y ∈ pc.1.set :=
  View.cover_of_tiled [⟨r0_3, p0⟩] S8x1x768.size (by rfl) y

/-- Window 4's staging buffer after the body, from the input windows' blocks: its 1 store as pieces, LAST
    FIRST. -/
def out0_4 (x0 : Vec F S768x768 .f32) (x1 : Vec F S8x768 .f32) (x2 : Vec F S24x768 .f32) : Vec F S1x256x8 .f32 :=
  View.canon [⟨r0_4, k0_pay1 (k0_pay28 (k0_pay72 x0 x1 x2)) (k0_pay32 (k0_pay72 x0 x1 x2) (k0_pay73 x0 x1 x2) (k0_pay74 x0 x1 x2) (k0_pay75 x0 x1 x2) (k0_pay78 x0 x1 x2)) (k0_pay36 (k0_pay72 x0 x1 x2) (k0_pay73 x0 x1 x2) (k0_pay74 x0 x1 x2) (k0_pay75 x0 x1 x2) (k0_pay78 x0 x1 x2)) (k0_pay43 (k0_pay74 x0 x1 x2) (k0_pay75 x0 x1 x2) (k0_pay79 x0 x1 x2) (k0_pay80 x0 x1 x2) (k0_pay81 x0 x1 x2)) (k0_pay47 (k0_pay72 x0 x1 x2) (k0_pay73 x0 x1 x2) (k0_pay74 x0 x1 x2) (k0_pay75 x0 x1 x2) (k0_pay78 x0 x1 x2)) (k0_pay51 (k0_pay74 x0 x1 x2) (k0_pay75 x0 x1 x2) (k0_pay82 x0 x1 x2)) (k0_pay55 (k0_pay72 x0 x1 x2) (k0_pay73 x0 x1 x2) (k0_pay74 x0 x1 x2) (k0_pay75 x0 x1 x2) (k0_pay78 x0 x1 x2)) (k0_pay58 (k0_pay72 x0 x1 x2) (k0_pay73 x0 x1 x2) (k0_pay74 x0 x1 x2) (k0_pay78 x0 x1 x2)) (k0_pay83 x0 x1 x2) (k0_pay60 (F := F))⟩]

/-- Its stores tile the buffer (checked by evaluation), so they cover it. -/
theorem cover0_4 (p0 : Vec F S1x256x8 .f32) (y : S1x256x8.Idx) :
    ∃ pc ∈ ([⟨r0_4, p0⟩] : List (View.Piece (Elt F) S1x256x8 .f32)), y ∈ pc.1.set :=
  View.cover_of_tiled [⟨r0_4, p0⟩] S1x256x8.size (by rfl) y

/-- Window 5's staging buffer after the body, from the input windows' blocks: its 1 store as pieces, LAST
    FIRST. -/
def out0_5 (x0 : Vec F S768x768 .f32) (x1 : Vec F S8x768 .f32) (x2 : Vec F S24x768 .f32) : Vec F S1x256x8 .f32 :=
  View.canon [⟨r0_4, k0_pay2 (k0_pay27 (k0_pay72 x0 x1 x2)) (k0_pay31 (k0_pay72 x0 x1 x2) (k0_pay73 x0 x1 x2) (k0_pay75 x0 x1 x2) (k0_pay78 x0 x1 x2)) (k0_pay35 (k0_pay72 x0 x1 x2) (k0_pay73 x0 x1 x2) (k0_pay75 x0 x1 x2) (k0_pay78 x0 x1 x2)) (k0_pay42 (k0_pay75 x0 x1 x2) (k0_pay79 x0 x1 x2) (k0_pay80 x0 x1 x2) (k0_pay81 x0 x1 x2)) (k0_pay46 (k0_pay72 x0 x1 x2) (k0_pay73 x0 x1 x2) (k0_pay75 x0 x1 x2) (k0_pay78 x0 x1 x2)) (k0_pay50 (k0_pay75 x0 x1 x2) (k0_pay82 x0 x1 x2)) (k0_pay54 (k0_pay72 x0 x1 x2) (k0_pay73 x0 x1 x2) (k0_pay75 x0 x1 x2) (k0_pay78 x0 x1 x2)) (k0_pay83 x0 x1 x2)⟩]

/-- Its stores tile the buffer (checked by evaluation), so they cover it. -/
theorem cover0_5 (p0 : Vec F S1x256x8 .f32) (y : S1x256x8.Idx) :
    ∃ pc ∈ ([⟨r0_4, p0⟩] : List (View.Piece (Elt F) S1x256x8 .f32)), y ∈ pc.1.set :=
  View.cover_of_tiled [⟨r0_4, p0⟩] S1x256x8.size (by rfl) y

/-- Window 6's staging buffer after the body, from the input windows' blocks: its 1 store as pieces, LAST
    FIRST. -/
def out0_6 (x0 : Vec F S768x768 .f32) (x1 : Vec F S8x768 .f32) (x2 : Vec F S24x768 .f32) : Vec F S1x256x8 .f32 :=
  View.canon [⟨r0_4, k0_pay3 (k0_pay76 x0 x1 x2) (k0_pay77 x0 x1 x2) (k0_pay29 (k0_pay71 x0 x1 x2) (k0_pay72 x0 x1 x2)) (k0_pay33 (k0_pay72 x0 x1 x2) (k0_pay73 x0 x1 x2) (k0_pay76 x0 x1 x2) (k0_pay77 x0 x1 x2) (k0_pay78 x0 x1 x2)) (k0_pay37 (k0_pay72 x0 x1 x2) (k0_pay73 x0 x1 x2) (k0_pay76 x0 x1 x2) (k0_pay77 x0 x1 x2) (k0_pay78 x0 x1 x2)) (k0_pay44 (k0_pay76 x0 x1 x2) (k0_pay77 x0 x1 x2) (k0_pay79 x0 x1 x2) (k0_pay80 x0 x1 x2) (k0_pay81 x0 x1 x2)) (k0_pay48 (k0_pay72 x0 x1 x2) (k0_pay73 x0 x1 x2) (k0_pay76 x0 x1 x2) (k0_pay77 x0 x1 x2) (k0_pay78 x0 x1 x2)) (k0_pay52 (k0_pay76 x0 x1 x2) (k0_pay77 x0 x1 x2) (k0_pay82 x0 x1 x2)) (k0_pay56 (k0_pay72 x0 x1 x2) (k0_pay73 x0 x1 x2) (k0_pay76 x0 x1 x2) (k0_pay77 x0 x1 x2) (k0_pay78 x0 x1 x2)) (k0_pay57 (k0_pay72 x0 x1 x2) (k0_pay73 x0 x1 x2) (k0_pay78 x0 x1 x2))⟩]

/-- Its stores tile the buffer (checked by evaluation), so they cover it. -/
theorem cover0_6 (p0 : Vec F S1x256x8 .f32) (y : S1x256x8.Idx) :
    ∃ pc ∈ ([⟨r0_4, p0⟩] : List (View.Piece (Elt F) S1x256x8 .f32)), y ∈ pc.1.set :=
  View.cover_of_tiled [⟨r0_4, p0⟩] S1x256x8.size (by rfl) y

/-- Window 7's staging buffer after the body, from the input windows' blocks: its 1 store as pieces, LAST
    FIRST. -/
def out0_7 (x0 : Vec F S768x768 .f32) (x1 : Vec F S8x768 .f32) (x2 : Vec F S24x768 .f32) : Vec F S8x1x128 .f32 :=
  View.canon [⟨r0_5, k0_pay4 (k0_pay19 (k0_pay72 x0 x1 x2))⟩]

/-- Its stores tile the buffer (checked by evaluation), so they cover it. -/
theorem cover0_7 (p0 : Vec F S8x1x128 .f32) (y : S8x1x128.Idx) :
    ∃ pc ∈ ([⟨r0_5, p0⟩] : List (View.Piece (Elt F) S8x1x128 .f32)), y ∈ pc.1.set :=
  View.cover_of_tiled [⟨r0_5, p0⟩] S8x1x128.size (by rfl) y

/-! ## The body's triple -/

set_option maxHeartbeats 1982200 in
/-- The kernel body on whole staging memrefs, the inputs' at read contents `xW` and the outputs' at anything, runs to
    the continuation holding the inputs' as they were and each output's at `out0_W` of the inputs': the printed functions
    are their skeletons (`*_eq_skeleton`), which `sl_exec` runs, through every part call. -/
theorem sound_kernel0 (c : Dev nD) (E : Set ℕ) (i : grid0.Coords) (arg1 : Memref sig .tc .vmem S768x768 .f32) (harg1 : arg1.IsWhole) (arg2 : Memref sig .tc .vmem S8x768 .f32) (harg2 : arg2.IsWhole) (arg3 : Memref sig .tc .vmem S24x768 .f32) (harg3 : arg3.IsWhole) (arg4 : Memref sig .tc .vmem S8x1x768 .f32) (harg4 : arg4.IsWhole) (arg5 : Memref sig .tc .vmem S1x256x8 .f32) (harg5 : arg5.IsWhole) (arg6 : Memref sig .tc .vmem S1x256x8 .f32) (harg6 : arg6.IsWhole) (arg7 : Memref sig .tc .vmem S1x256x8 .f32) (harg7 : arg7.IsWhole) (arg8 : Memref sig .tc .vmem S8x1x128 .f32) (harg8 : arg8.IsWhole)
    (x0 : Vec F S768x768 .f32) (x1 : Vec F S8x768 .f32) (x2 : Vec F S24x768 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2) ∗ owns (c : Thread nD τ) arg7 fullShare (out0_6 x0 x1 x2) ∗ owns (c : Thread nD τ) arg8 fullShare (out0_7 x0 x1 x2)) -∗ K ⟨⟩))
      ⊢ wp frame (wpE (defs₀ (F := F)) Variants.none c none) E (cc0__router_body i arg1 harg1 arg2 harg2 arg3 harg3 arg4 harg4 arg5 harg5 arg6 harg6 arg7 harg7 arg8 harg8) K := by
  simp only [cc0__router_body_eq_skeleton]; unfold cc0__router_body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  iexists _; isplitr
  swap; · iexact H7
  ipureintro
  refine (View.read_writes_eq_canon _ _ _ (cover0_7 _)).trans ?_
  rfl

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
    | ⟨6, _⟩ => out0_6 (iblk0 V c 0 t) (iblk0 V c 1 t) (iblk0 V c 2 t)
    | ⟨7, _⟩ => out0_7 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) := by dsimp only [dat0]
theorem after0_7 (c : Dev nD) (t : Fin cfg0.N) : (dat0 V c).after 7 t = out0_7 (iblk0 V c 0 t) (iblk0 V c 1 t) (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Hand

end
-- ==== Proof.Ideal.Ffn.lean ====
/- The expert region: its body in each of its five cases, and its triple at any point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 1 of @main: custom_call 1, `cc1__ffn_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's branches -/

/-- Each window's staging memref at a point, and that it is whole. -/
abbrev ms1_0 (t : Fin cfg1.N) : Memref sig .tc .vmem S768x768 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x768x1536 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1536x768 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1x768 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S256x768 .f32 := win1_8.stage (cfg1.slots t 8)
abbrev hs1_8 (t : Fin cfg1.N) : (ms1_8 t).IsWhole := hstage1_8 ((cfg1.slots t 8).cast nbuf1_8)
/-- The two scratch buffers: the gathered tokens and the weighted scatter of one expert. -/
abbrev scX : Memref sig .tc .vmem S256x768 .bf16 := Memref.whole cc1_scratch0
abbrev scG : Memref sig .tc .vmem S256x256 .f32 := Memref.whole cc1_scratch1

/-- The lane of the overflow block the body reads. -/
abbrev rOvf : Rect S1x1x128 := Rect.unit (s := S1x1x128) ![0, 0, 0] S1x1x1.size inb_S1x1x128_S1x1x1_0_0_0
/-- The overflow bit the body computes from its block. -/
def ovBit (x6 : Vec F S1x1x128 .f32) : BitVec 1 :=
  Scalar.cmpf .ogt (k1_pay2 (View.ld x6 rOvf)) (Scalar.ofBits .f32 0x3F000000#32)
/-- The first point of all. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The first block of an expert that does not overflow. -/
abbrev cond1_1 (i : grid1.Coords) (b : BitVec 1) : Prop := (Scalar.cmpi .ne (Scalar.extui (Scalar.andi (Scalar.cmpi .eq (BitVec.ofNat 32 (i 1).val) 0#32) (Scalar.xori b 1#1))) 0#32) = 1#1
/-- The expert does not overflow. -/
abbrev cond1_2 (b : BitVec 1) : Prop := (Scalar.cmpi .ne (Scalar.extui (Scalar.xori b 1#1)) 0#32) = 1#1
/-- The expert overflows. -/
abbrev cond1_3 (b : BitVec 1) : Prop := (Scalar.cmpi .ne (Scalar.extui b) 0#32) = 1#1

theorem hcond1_0 (t : Fin cfg1.N) : cond1_0 (grid1.coords t) ↔ t.val = 0 := by
  have ht : t.val < 16 := Nat.lt_of_lt_of_eq t.isLt N_1
  have e0 : (grid1.coords t 0).val = t.val / 2 % 8 := Pipeline.Grid.coords_val t 0 (by decide) rfl
  have e1 : (grid1.coords t 1).val = t.val / 1 % 2 := Pipeline.Grid.coords_val t 1 (by decide) rfl
  simp only [cond1_0, e0, e1]
  word_cmp
theorem hcond1_k (t : Fin cfg1.N) : Scalar.cmpi .eq (BitVec.ofNat 32 (grid1.coords t 1).val) 0#32 = 1#1 ↔ t.val % 2 = 0 := by
  have ht : t.val < 16 := Nat.lt_of_lt_of_eq t.isLt N_1
  have e1 : (grid1.coords t 1).val = t.val / 1 % 2 := Pipeline.Grid.coords_val t 1 (by decide) rfl
  simp only [e1]
  word_cmp
theorem bit_cases (b : BitVec 1) : b = 0#1 ∨ b = 1#1 := by revert b; decide
theorem hcond1_1 (t : Fin cfg1.N) (b : BitVec 1) : cond1_1 (grid1.coords t) b ↔ (t.val % 2 = 0 ∧ b ≠ 1#1) := by
  rw [← hcond1_k]; unfold cond1_1
  generalize Scalar.cmpi .eq (BitVec.ofNat 32 (grid1.coords t 1).val) 0#32 = k
  revert k b; decide
theorem hcond1_2 (b : BitVec 1) : cond1_2 b ↔ b ≠ 1#1 := by revert b; decide
theorem hcond1_3 (b : BitVec 1) : cond1_3 b ↔ b = 1#1 := by revert b; decide

theorem hz2 : (![0, 0] : Fin 2 → Nat) = fun _ => 0 := by decide

/-! ## The body's triple, case by case -/

set_option maxHeartbeats 4000000 in
/-- At the first point, the expert not overflowing: the output is zeroed, both scratch buffers are filled, and the block is added. -/
theorem kernel1_A (c : Dev nD) (E : Set ℕ) (i : grid1.Coords) (arg2 : Memref sig .tc .vmem S768x768 .bf16) (harg2 : arg2.IsWhole) (arg3 : Memref sig .tc .vmem S1x768x1536 .f32) (harg3 : arg3.IsWhole) (arg4 : Memref sig .tc .vmem S1x1536x768 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S1x1x128 .f32) (harg8 : arg8.IsWhole) (arg9 : Memref sig .tc .vmem S1x1x768 .f32) (harg9 : arg9.IsWhole) (arg10 : Memref sig .tc .vmem S256x768 .f32) (harg10 : arg10.IsWhole) (arg11 : Memref sig .tc .vmem S256x768 .bf16) (harg11 : arg11.IsWhole) (arg12 : Memref sig .tc .vmem S256x256 .f32) (harg12 : arg12.IsWhole)
    (x0 : Vec F S768x768 .bf16) (x1 : Vec F S1x768x1536 .f32) (x2 : Vec F S1x1536x768 .f32) (x3 : Vec F S1x256x1 .f32) (x4 : Vec F S1x256x1 .f32) (x5 : Vec F S1x256x1 .f32) (x6 : Vec F S1x1x128 .f32) (x7 : Vec F S1x1x768 .f32) (hc0 : cond1_0 i) (h1 : cond1_1 i (ovBit x6)) (h2 : cond1_2 (ovBit x6)) (h3 : ¬cond1_3 (ovBit x6)) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay5 (k1_pay3 x3 x0) x1 x2 (k1_pay1 (F := F)) (k1_pay4 x5 x4)) ∗ owns (c : Thread nD τ) arg11 fullShare (k1_pay3 x3 x0) ∗ owns (c : Thread nD τ) arg12 fullShare (k1_pay4 x5 x4)) -∗ K ⟨⟩))
      ⊢ wp frame (wpE (defs₀ (F := F)) Variants.none c none) E (cc1__ffn_body i arg2 harg2 arg3 harg3 arg4 harg4 arg5 harg5 arg6 harg6 arg7 harg7 arg8 harg8 arg9 harg9 arg10 harg10 arg11 harg11 arg12 harg12) K := by
  have hl : arg8.view.readAt (Elt F) (Rect.unit (s := S1x1x128) ![0, 0, 0] S1x1x1.size inb_S1x1x128_S1x1x1_0_0_0).toLoadRect (harg8.unread x6) = View.ld x6 rOvf := by
    rw [View.readAt_eq_ld, Memref.IsWhole.read_unread]
  unfold ovBit at h1 h2 h3
  simp only [cc1__ffn_body_eq_skeleton]; unfold cc1__ffn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (View.read_writes_eq_canon (Val := Elt F) _ _ _ ?_).trans ?_
    · exact View.cover_of_tiledL _ S256x768.size (by sl_kernel_rfl)
    frame_out
  isplitl [H9]
  · iexists _; isplitr
    swap; · iexact H9
    ipureintro
    refine (View.read_writes_eq_canon (Val := Elt F) _ _ _ ?_).trans ?_
    · exact View.cover_of_tiledL _ S256x768.size (by sl_kernel_rfl)
    frame_out
  iexists _; isplitr
  swap; · iexact H10
  ipureintro
  refine (View.read_writes_eq_canon (Val := Elt F) _ _ _ ?_).trans ?_
  · exact View.cover_of_tiledL _ S256x256.size (by sl_kernel_rfl)
  frame_out

set_option maxHeartbeats 4000000 in
/-- At the first point, the expert overflowing: the output is zeroed and the dense block is added; the scratch stays. -/
theorem kernel1_B (c : Dev nD) (E : Set ℕ) (i : grid1.Coords) (arg2 : Memref sig .tc .vmem S768x768 .bf16) (harg2 : arg2.IsWhole) (arg3 : Memref sig .tc .vmem S1x768x1536 .f32) (harg3 : arg3.IsWhole) (arg4 : Memref sig .tc .vmem S1x1536x768 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S1x1x128 .f32) (harg8 : arg8.IsWhole) (arg9 : Memref sig .tc .vmem S1x1x768 .f32) (harg9 : arg9.IsWhole) (arg10 : Memref sig .tc .vmem S256x768 .f32) (harg10 : arg10.IsWhole) (arg11 : Memref sig .tc .vmem S256x768 .bf16) (harg11 : arg11.IsWhole) (arg12 : Memref sig .tc .vmem S256x256 .f32) (harg12 : arg12.IsWhole)
    (x0 : Vec F S768x768 .bf16) (x1 : Vec F S1x768x1536 .f32) (x2 : Vec F S1x1536x768 .f32) (x3 : Vec F S1x256x1 .f32) (x4 : Vec F S1x256x1 .f32) (x5 : Vec F S1x256x1 .f32) (x6 : Vec F S1x1x128 .f32) (x7 : Vec F S1x1x768 .f32) (s0 : Vec F S256x768 .bf16) (s1 : Vec F S256x256 .f32) (hc0 : cond1_0 i) (h1 : ¬cond1_1 i (ovBit x6)) (h2 : ¬cond1_2 (ovBit x6)) (h3 : cond1_3 (ovBit x6)) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare s0 ∗ owns (c : Thread nD τ) arg12 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay6 x0 x1 x2 x7 (k1_pay1 (F := F))) ∗ owns (c : Thread nD τ) arg11 fullShare s0 ∗ owns (c : Thread nD τ) arg12 fullShare s1) -∗ K ⟨⟩))
      ⊢ wp frame (wpE (defs₀ (F := F)) Variants.none c none) E (cc1__ffn_body i arg2 harg2 arg3 harg3 arg4 harg4 arg5 harg5 arg6 harg6 arg7 harg7 arg8 harg8 arg9 harg9 arg10 harg10 arg11 harg11 arg12 harg12) K := by
  have hl : arg8.view.readAt (Elt F) (Rect.unit (s := S1x1x128) ![0, 0, 0] S1x1x1.size inb_S1x1x128_S1x1x1_0_0_0).toLoadRect (harg8.unread x6) = View.ld x6 rOvf := by
    rw [View.readAt_eq_ld, Memref.IsWhole.read_unread]
  unfold ovBit at h1 h2 h3
  simp only [cc1__ffn_body_eq_skeleton]; unfold cc1__ffn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9; obtain rfl := harg12.eq_unread hf10
  sl_exec (disch := first | sl_exact hc0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (View.read_writes_eq_canon (Val := Elt F) _ _ _ ?_).trans ?_
    · exact View.cover_of_tiledL _ S256x768.size (by sl_kernel_rfl)
    frame_out
  isplitl [H9]
  · iexists _; isplitr; · ipureintro; exact harg11.read_unread _
    iexact H9
  iexists _; isplitr; · ipureintro; exact harg12.read_unread _
  iexact H10

set_option maxHeartbeats 4000000 in
/-- At an expert's first block, not overflowing: both scratch buffers are filled and the block is added. -/
theorem kernel1_C (c : Dev nD) (E : Set ℕ) (i : grid1.Coords) (arg2 : Memref sig .tc .vmem S768x768 .bf16) (harg2 : arg2.IsWhole) (arg3 : Memref sig .tc .vmem S1x768x1536 .f32) (harg3 : arg3.IsWhole) (arg4 : Memref sig .tc .vmem S1x1536x768 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S1x1x128 .f32) (harg8 : arg8.IsWhole) (arg9 : Memref sig .tc .vmem S1x1x768 .f32) (harg9 : arg9.IsWhole) (arg10 : Memref sig .tc .vmem S256x768 .f32) (harg10 : arg10.IsWhole) (arg11 : Memref sig .tc .vmem S256x768 .bf16) (harg11 : arg11.IsWhole) (arg12 : Memref sig .tc .vmem S256x256 .f32) (harg12 : arg12.IsWhole)
    (x0 : Vec F S768x768 .bf16) (x1 : Vec F S1x768x1536 .f32) (x2 : Vec F S1x1536x768 .f32) (x3 : Vec F S1x256x1 .f32) (x4 : Vec F S1x256x1 .f32) (x5 : Vec F S1x256x1 .f32) (x6 : Vec F S1x1x128 .f32) (x7 : Vec F S1x1x768 .f32) (xo : Vec F S256x768 .f32) (hc0 : ¬cond1_0 i) (h1 : cond1_1 i (ovBit x6)) (h2 : cond1_2 (ovBit x6)) (h3 : ¬cond1_3 (ovBit x6)) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay5 (k1_pay3 x3 x0) x1 x2 xo (k1_pay4 x5 x4)) ∗ owns (c : Thread nD τ) arg11 fullShare (k1_pay3 x3 x0) ∗ owns (c : Thread nD τ) arg12 fullShare (k1_pay4 x5 x4)) -∗ K ⟨⟩))
      ⊢ wp frame (wpE (defs₀ (F := F)) Variants.none c none) E (cc1__ffn_body i arg2 harg2 arg3 harg3 arg4 harg4 arg5 harg5 arg6 harg6 arg7 harg7 arg8 harg8 arg9 harg9 arg10 harg10 arg11 harg11 arg12 harg12) K := by
  have hl : arg8.view.readAt (Elt F) (Rect.unit (s := S1x1x128) ![0, 0, 0] S1x1x1.size inb_S1x1x128_S1x1x1_0_0_0).toLoadRect (harg8.unread x6) = View.ld x6 rOvf := by
    rw [View.readAt_eq_ld, Memref.IsWhole.read_unread]
  unfold ovBit at h1 h2 h3
  simp only [cc1__ffn_body_eq_skeleton]; unfold cc1__ffn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (View.read_writes_eq_canon (Val := Elt F) _ _ _ ?_).trans ?_
    · exact View.cover_of_tiledL _ S256x768.size (by sl_kernel_rfl)
    frame_out
  isplitl [H9]
  · iexists _; isplitr
    swap; · iexact H9
    ipureintro
    refine (View.read_writes_eq_canon (Val := Elt F) _ _ _ ?_).trans ?_
    · exact View.cover_of_tiledL _ S256x768.size (by sl_kernel_rfl)
    frame_out
  iexists _; isplitr
  swap; · iexact H10
  ipureintro
  refine (View.read_writes_eq_canon (Val := Elt F) _ _ _ ?_).trans ?_
  · exact View.cover_of_tiledL _ S256x256.size (by sl_kernel_rfl)
  frame_out

set_option maxHeartbeats 4000000 in
/-- At an expert's later block, not overflowing: the block is added from the scratch as it was left. -/
theorem kernel1_D (c : Dev nD) (E : Set ℕ) (i : grid1.Coords) (arg2 : Memref sig .tc .vmem S768x768 .bf16) (harg2 : arg2.IsWhole) (arg3 : Memref sig .tc .vmem S1x768x1536 .f32) (harg3 : arg3.IsWhole) (arg4 : Memref sig .tc .vmem S1x1536x768 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S1x1x128 .f32) (harg8 : arg8.IsWhole) (arg9 : Memref sig .tc .vmem S1x1x768 .f32) (harg9 : arg9.IsWhole) (arg10 : Memref sig .tc .vmem S256x768 .f32) (harg10 : arg10.IsWhole) (arg11 : Memref sig .tc .vmem S256x768 .bf16) (harg11 : arg11.IsWhole) (arg12 : Memref sig .tc .vmem S256x256 .f32) (harg12 : arg12.IsWhole)
    (x0 : Vec F S768x768 .bf16) (x1 : Vec F S1x768x1536 .f32) (x2 : Vec F S1x1536x768 .f32) (x3 : Vec F S1x256x1 .f32) (x4 : Vec F S1x256x1 .f32) (x5 : Vec F S1x256x1 .f32) (x6 : Vec F S1x1x128 .f32) (x7 : Vec F S1x1x768 .f32) (xo : Vec F S256x768 .f32) (s0 : Vec F S256x768 .bf16) (s1 : Vec F S256x256 .f32) (hc0 : ¬cond1_0 i) (h1 : ¬cond1_1 i (ovBit x6)) (h2 : cond1_2 (ovBit x6)) (h3 : ¬cond1_3 (ovBit x6)) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare s0 ∗ owns (c : Thread nD τ) arg12 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay5 s0 x1 x2 xo s1) ∗ owns (c : Thread nD τ) arg11 fullShare s0 ∗ owns (c : Thread nD τ) arg12 fullShare s1) -∗ K ⟨⟩))
      ⊢ wp frame (wpE (defs₀ (F := F)) Variants.none c none) E (cc1__ffn_body i arg2 harg2 arg3 harg3 arg4 harg4 arg5 harg5 arg6 harg6 arg7 harg7 arg8 harg8 arg9 harg9 arg10 harg10 arg11 harg11 arg12 harg12) K := by
  have hl : arg8.view.readAt (Elt F) (Rect.unit (s := S1x1x128) ![0, 0, 0] S1x1x1.size inb_S1x1x128_S1x1x1_0_0_0).toLoadRect (harg8.unread x6) = View.ld x6 rOvf := by
    rw [View.readAt_eq_ld, Memref.IsWhole.read_unread]
  unfold ovBit at h1 h2 h3
  simp only [cc1__ffn_body_eq_skeleton]; unfold cc1__ffn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (View.read_writes_eq_canon (Val := Elt F) _ _ _ ?_).trans ?_
    · exact View.cover_of_tiledL _ S256x768.size (by sl_kernel_rfl)
    frame_out
  isplitl [H9]
  · iexists _; isplitr; · ipureintro; exact harg11.read_unread _
    iexact H9
  iexists _; isplitr; · ipureintro; exact harg12.read_unread _
  iexact H10

set_option maxHeartbeats 4000000 in
/-- At a later point, the expert overflowing: the dense block is added; the scratch stays. -/
theorem kernel1_E (c : Dev nD) (E : Set ℕ) (i : grid1.Coords) (arg2 : Memref sig .tc .vmem S768x768 .bf16) (harg2 : arg2.IsWhole) (arg3 : Memref sig .tc .vmem S1x768x1536 .f32) (harg3 : arg3.IsWhole) (arg4 : Memref sig .tc .vmem S1x1536x768 .f32) (harg4 : arg4.IsWhole) (arg5 : Memref sig .tc .vmem S1x256x1 .f32) (harg5 : arg5.IsWhole) (arg6 : Memref sig .tc .vmem S1x256x1 .f32) (harg6 : arg6.IsWhole) (arg7 : Memref sig .tc .vmem S1x256x1 .f32) (harg7 : arg7.IsWhole) (arg8 : Memref sig .tc .vmem S1x1x128 .f32) (harg8 : arg8.IsWhole) (arg9 : Memref sig .tc .vmem S1x1x768 .f32) (harg9 : arg9.IsWhole) (arg10 : Memref sig .tc .vmem S256x768 .f32) (harg10 : arg10.IsWhole) (arg11 : Memref sig .tc .vmem S256x768 .bf16) (harg11 : arg11.IsWhole) (arg12 : Memref sig .tc .vmem S256x256 .f32) (harg12 : arg12.IsWhole)
    (x0 : Vec F S768x768 .bf16) (x1 : Vec F S1x768x1536 .f32) (x2 : Vec F S1x1536x768 .f32) (x3 : Vec F S1x256x1 .f32) (x4 : Vec F S1x256x1 .f32) (x5 : Vec F S1x256x1 .f32) (x6 : Vec F S1x1x128 .f32) (x7 : Vec F S1x1x768 .f32) (xo : Vec F S256x768 .f32) (s0 : Vec F S256x768 .bf16) (s1 : Vec F S256x256 .f32) (hc0 : ¬cond1_0 i) (h1 : ¬cond1_1 i (ovBit x6)) (h2 : ¬cond1_2 (ovBit x6)) (h3 : cond1_3 (ovBit x6)) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xo ∗ owns (c : Thread nD τ) arg11 fullShare s0 ∗ owns (c : Thread nD τ) arg12 fullShare s1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k1_pay6 x0 x1 x2 x7 xo) ∗ owns (c : Thread nD τ) arg11 fullShare s0 ∗ owns (c : Thread nD τ) arg12 fullShare s1) -∗ K ⟨⟩))
      ⊢ wp frame (wpE (defs₀ (F := F)) Variants.none c none) E (cc1__ffn_body i arg2 harg2 arg3 harg3 arg4 harg4 arg5 harg5 arg6 harg6 arg7 harg7 arg8 harg8 arg9 harg9 arg10 harg10 arg11 harg11 arg12 harg12) K := by
  have hl : arg8.view.readAt (Elt F) (Rect.unit (s := S1x1x128) ![0, 0, 0] S1x1x1.size inb_S1x1x128_S1x1x1_0_0_0).toLoadRect (harg8.unread x6) = View.ld x6 rOvf := by
    rw [View.readAt_eq_ld, Memref.IsWhole.read_unread]
  unfold ovBit at h1 h2 h3
  simp only [cc1__ffn_body_eq_skeleton]; unfold cc1__ffn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec (disch := first | sl_exact hc0 | sl_exact h1 | sl_exact h2 | sl_exact h3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr
    swap; · iexact H8
    ipureintro
    refine (View.read_writes_eq_canon (Val := Elt F) _ _ _ ?_).trans ?_
    · exact View.cover_of_tiledL _ S256x768.size (by sl_kernel_rfl)
    frame_out
  isplitl [H9]
  · iexists _; isplitr; · ipureintro; exact harg11.read_unread _
    iexact H9
  iexists _; isplitr; · ipureintro; exact harg12.read_unread _
  iexact H10

/-! ## The blocks at coordinates -/

/-- Where each window's block lies at a point: the expert is half the point, the hidden block its parity. -/
theorem idx1 : ∀ t : Fin grid1.N, win1_0.index t = ![0, 0] ∧ win1_1.index t = ![t.val / 2, 0, t.val % 2] ∧ win1_2.index t = ![t.val / 2, t.val % 2, 0]
    ∧ win1_3.index t = ![t.val / 2, 0, 0] ∧ win1_4.index t = ![t.val / 2, 0, 0] ∧ win1_5.index t = ![t.val / 2, 0, 0]
    ∧ win1_6.index t = ![t.val / 2, 0, 0] ∧ win1_7.index t = ![t.val / 2, 0, 0] ∧ win1_8.index t = ![0, 0] := by decide +kernel

theorem half_lt (t : Fin cfg1.N) : t.val / 2 < 8 := by have := lt_of_lt_of_eq t.isLt (show cfg1.N = 16 from N_1); omega

theorem iblk1_at0 (c : Dev nD) (t : Fin cfg1.N) (y : S768x768.Idx) :
    iblk1 V c 0 t y = V c (Pipeline.arrRef spec1 0) (y) := by
  obtain ⟨h0, h1, h2, h3, h4, h5, h6, h7, h8⟩ := idx1 t
  have hN := half_lt t
  blk_ext [iblk1, h0]
theorem iblk1_at1 (c : Dev nD) (t : Fin cfg1.N) (y : S1x768x1536.Idx) :
    iblk1 V c 1 t y = V c (Pipeline.arrRef spec1 1) (ix3 (⟨t.val / 2, half_lt t⟩ : Fin 8) (y 1) (⟨t.val % 2 * 1536 + (y 2).val, by have : (y 2).val < 1536 := (y 2).isLt; omega⟩ : Fin 3072)) := by
  obtain ⟨h0, h1, h2, h3, h4, h5, h6, h7, h8⟩ := idx1 t
  have hN := half_lt t
  blk_ext [iblk1, h1]
theorem iblk1_at2 (c : Dev nD) (t : Fin cfg1.N) (y : S1x1536x768.Idx) :
    iblk1 V c 2 t y = V c (Pipeline.arrRef spec1 2) (ix3 (⟨t.val / 2, half_lt t⟩ : Fin 8) (⟨t.val % 2 * 1536 + (y 1).val, by have : (y 1).val < 1536 := (y 1).isLt; omega⟩ : Fin 3072) (y 2)) := by
  obtain ⟨h0, h1, h2, h3, h4, h5, h6, h7, h8⟩ := idx1 t
  have hN := half_lt t
  blk_ext [iblk1, h2]
theorem iblk1_at3 (c : Dev nD) (t : Fin cfg1.N) (y : S1x256x1.Idx) :
    iblk1 V c 3 t y = V c (Pipeline.arrRef spec1 3) (ix3 (⟨t.val / 2, half_lt t⟩ : Fin 8) (y 1) (y 2)) := by
  obtain ⟨h0, h1, h2, h3, h4, h5, h6, h7, h8⟩ := idx1 t
  have hN := half_lt t
  blk_ext [iblk1, h3]
theorem iblk1_at4 (c : Dev nD) (t : Fin cfg1.N) (y : S1x256x1.Idx) :
    iblk1 V c 4 t y = V c (Pipeline.arrRef spec1 4) (ix3 (⟨t.val / 2, half_lt t⟩ : Fin 8) (y 1) (y 2)) := by
  obtain ⟨h0, h1, h2, h3, h4, h5, h6, h7, h8⟩ := idx1 t
  have hN := half_lt t
  blk_ext [iblk1, h4]
theorem iblk1_at5 (c : Dev nD) (t : Fin cfg1.N) (y : S1x256x1.Idx) :
    iblk1 V c 5 t y = V c (Pipeline.arrRef spec1 5) (ix3 (⟨t.val / 2, half_lt t⟩ : Fin 8) (y 1) (y 2)) := by
  obtain ⟨h0, h1, h2, h3, h4, h5, h6, h7, h8⟩ := idx1 t
  have hN := half_lt t
  blk_ext [iblk1, h5]
theorem iblk1_at6 (c : Dev nD) (t : Fin cfg1.N) (y : S1x1x128.Idx) :
    iblk1 V c 6 t y = V c (Pipeline.arrRef spec1 6) (ix3 (⟨t.val / 2, half_lt t⟩ : Fin 8) (y 1) (y 2)) := by
  obtain ⟨h0, h1, h2, h3, h4, h5, h6, h7, h8⟩ := idx1 t
  have hN := half_lt t
  blk_ext [iblk1, h6]
theorem iblk1_at7 (c : Dev nD) (t : Fin cfg1.N) (y : S1x1x768.Idx) :
    iblk1 V c 7 t y = V c (Pipeline.arrRef spec1 7) (ix3 (⟨t.val / 2, half_lt t⟩ : Fin 8) (y 1) (y 2)) := by
  obtain ⟨h0, h1, h2, h3, h4, h5, h6, h7, h8⟩ := idx1 t
  have hN := half_lt t
  blk_ext [iblk1, h7]

/-- Two points of the same expert have the same blocks in the windows indexed by the expert alone. -/
theorem iblk1_same0 (c : Dev nD) (t t' : Fin cfg1.N) : (iblk1 V c 0 t : Vec F S768x768 .bf16) = iblk1 V c 0 t' := by
  funext y; exact (iblk1_at0 V c t y).trans (iblk1_at0 V c t' y).symm
theorem iblk1_same3 (c : Dev nD) (t t' : Fin cfg1.N) (h : t.val / 2 = t'.val / 2) : (iblk1 V c 3 t : Vec F S1x256x1 .f32) = iblk1 V c 3 t' := by
  funext y; refine (iblk1_at3 V c t y).trans ((congrArg _ ?_).trans (iblk1_at3 V c t' y).symm); congr 1; exact Fin.ext h
theorem iblk1_same4 (c : Dev nD) (t t' : Fin cfg1.N) (h : t.val / 2 = t'.val / 2) : (iblk1 V c 4 t : Vec F S1x256x1 .f32) = iblk1 V c 4 t' := by
  funext y; refine (iblk1_at4 V c t y).trans ((congrArg _ ?_).trans (iblk1_at4 V c t' y).symm); congr 1; exact Fin.ext h
theorem iblk1_same5 (c : Dev nD) (t t' : Fin cfg1.N) (h : t.val / 2 = t'.val / 2) : (iblk1 V c 5 t : Vec F S1x256x1 .f32) = iblk1 V c 5 t' := by
  funext y; refine (iblk1_at5 V c t y).trans ((congrArg _ ?_).trans (iblk1_at5 V c t' y).symm); congr 1; exact Fin.ext h
theorem iblk1_same6 (c : Dev nD) (t t' : Fin cfg1.N) (h : t.val / 2 = t'.val / 2) : (iblk1 V c 6 t : Vec F S1x1x128 .f32) = iblk1 V c 6 t' := by
  funext y; refine (iblk1_at6 V c t y).trans ((congrArg _ ?_).trans (iblk1_at6 V c t' y).symm); congr 1; exact Fin.ext h

/-! ## What the output holds after each point -/

/-- The gathered tokens of a point's expert. -/
def scr0 (c : Dev nD) (t : Fin cfg1.N) : Vec F S256x768 .bf16 := k1_pay3 (iblk1 V c 3 t) (iblk1 V c 0 t)
/-- The weighted scatter matrix of a point's expert. -/
def scr1 (c : Dev nD) (t : Fin cfg1.N) : Vec F S256x256 .f32 := k1_pay4 (iblk1 V c 5 t) (iblk1 V c 4 t)
theorem scr0_same (c : Dev nD) (t t' : Fin cfg1.N) (h : t.val / 2 = t'.val / 2) : scr0 V c t = scr0 V c t' := by
  unfold scr0; rw [iblk1_same0 V c t t', iblk1_same3 V c t t' h]
theorem scr1_same (c : Dev nD) (t t' : Fin cfg1.N) (h : t.val / 2 = t'.val / 2) : scr1 V c t = scr1 V c t' := by
  unfold scr1; rw [iblk1_same5 V c t t' h, iblk1_same4 V c t t' h]
/-- One point's contribution added to what the output held: dense when the expert overflows, from the slots otherwise. -/
def step1 (c : Dev nD) (t : Fin cfg1.N) (prev : Vec F S256x768 .f32) : Vec F S256x768 .f32 :=
  if ovBit (iblk1 V c 6 t) = 1#1 then k1_pay6 (iblk1 V c 0 t) (iblk1 V c 1 t) (iblk1 V c 2 t) (iblk1 V c 7 t) prev
  else k1_pay5 (scr0 V c t) (iblk1 V c 1 t) (iblk1 V c 2 t) prev (scr1 V c t)
/-- The output's buffer after the body at position `n`: the points' contributions folded from zero. -/
def outsAt1 (c : Dev nD) : (n : ℕ) → n < cfg1.N → Vec F S256x768 .f32
  | 0, hn => step1 V c ⟨0, hn⟩ (k1_pay1 (F := F))
  | n + 1, hn => step1 V c ⟨n + 1, hn⟩ (outsAt1 c n (Nat.lt_of_succ_lt hn))
theorem outsAt1_zero (c : Dev nD) (t : Fin cfg1.N) (h0 : t.val = 0) : outsAt1 V c t.val t.isLt = step1 V c t (k1_pay1 (F := F)) := by
  obtain ⟨n, hn⟩ := t; cases n with
  | zero => rfl
  | succ n => exact absurd h0 (Nat.succ_ne_zero n)
theorem outsAt1_pos (c : Dev nD) (t : Fin cfg1.N) (h0 : ¬t.val = 0) :
    outsAt1 V c t.val t.isLt = step1 V c t (outsAt1 V c (t.val - 1) (Nat.lt_of_le_of_lt (Nat.sub_le _ _) t.isLt)) := by
  obtain ⟨n, hn⟩ := t; cases n with
  | zero => exact absurd rfl h0
  | succ n => rfl

/-! ## The invariant and the proof data -/

/-- What the scratch holds before position `n`: after an expert's first block, not overflowing, that expert's two matrices. -/
def ScrOk (c : Dev nD) (n : ℕ) (d0 : Vec F S256x768 .bf16) (d1 : Vec F S256x256 .f32) : Prop :=
  ∀ t : Fin cfg1.N, t.val + 1 = n → t.val % 2 = 0 → ovBit (iblk1 V c 6 t) ≠ 1#1 → d0 = scr0 V c t ∧ d1 = scr1 V c t
/-- What the region keeps untouched beside its scratch: the router's staging buffers, and the generator register. -/
def Keep (c : Dev nD) : sProp 𝕄 := iprop((∃ f : Buf (Elt F) ((c : Thread nD τ).loc cc0_stg0_0), (c : Thread nD τ).loc cc0_stg0_0 ↦{fullShare} f)
    ∗ (∃ f : Buf (Elt F) ((c : Thread nD τ).loc cc0_stg1_0), (c : Thread nD τ).loc cc0_stg1_0 ↦{fullShare} f)
    ∗ (∃ f : Buf (Elt F) ((c : Thread nD τ).loc cc0_stg2_0), (c : Thread nD τ).loc cc0_stg2_0 ↦{fullShare} f)
    ∗ (∃ f : Buf (Elt F) ((c : Thread nD τ).loc cc0_stg3_0), (c : Thread nD τ).loc cc0_stg3_0 ↦{fullShare} f)
    ∗ (∃ f : Buf (Elt F) ((c : Thread nD τ).loc cc0_stg4_0), (c : Thread nD τ).loc cc0_stg4_0 ↦{fullShare} f)
    ∗ (∃ f : Buf (Elt F) ((c : Thread nD τ).loc cc0_stg5_0), (c : Thread nD τ).loc cc0_stg5_0 ↦{fullShare} f)
    ∗ (∃ f : Buf (Elt F) ((c : Thread nD τ).loc cc0_stg6_0), (c : Thread nD τ).loc cc0_stg6_0 ↦{fullShare} f)
    ∗ (∃ f : Buf (Elt F) ((c : Thread nD τ).loc cc0_stg7_0), (c : Thread nD τ).loc cc0_stg7_0 ↦{fullShare} f)
    ∗ (∃ r, prngReg c r))
/-- The region's invariant before position `n`: the scratch at contents that `ScrOk` speaks of, the rest untouched. -/
def Phi1 (c : Dev nD) (n : ℕ) : sProp 𝕄 :=
  iprop(∃ d0 d1, ⌜ScrOk V c n d0 d1⌝ ∗ owns (c : Thread nD τ) scX fullShare d0 ∗ owns (c : Thread nD τ) scG fullShare d1 ∗ Keep c)
theorem Phi1_start (c : Dev nD) : (Pipeline.ΦA spec1 c : sProp 𝕄) ⊢ Phi1 V c 0 := by
  unfold Pipeline.ΦA; rw [scopedRest1_eq]; unfold Phi1 Keep
  simp only [scX, scG, owns_whole]
  iintro ⟨⟨K0, K1, K2, K3, K4, K5, K6, K7, ⟨%d0, H0⟩, ⟨%d1, H1⟩⟩, Hp⟩
  iexists d0; iexists d1
  isplitr; · ipureintro; exact fun t h => absurd h (Nat.succ_ne_zero _)
  isplitl [H0]; · iexact H0
  isplitl [H1]; · iexact H1
  isplitl [K0]; · iexact K0
  isplitl [K1]; · iexact K1
  isplitl [K2]; · iexact K2
  isplitl [K3]; · iexact K3
  isplitl [K4]; · iexact K4
  isplitl [K5]; · iexact K5
  isplitl [K6]; · iexact K6
  isplitl [K7]; · iexact K7
  iexact Hp
theorem Phi1_end (c : Dev nD) (n : ℕ) : Phi1 V c n ⊢ (Pipeline.ΦA spec1 c : sProp 𝕄) := by
  unfold Pipeline.ΦA; rw [scopedRest1_eq]; unfold Phi1 Keep
  simp only [scX, scG, owns_whole]
  iintro ⟨%d0, %d1, -, H0, H1, K0, K1, K2, K3, K4, K5, K6, K7, Hp⟩
  isplitr [Hp]
  · isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [H0]; · iexists d0; iexact H0
    iexists d1; iexact H1
  iexact Hp

/-- The proof data of the expert region on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt)
  Φ t := Phi1 V c t.val
  q _ := fullShare
  owed _ := 0

/-- The proof data's arrays are the region-entry contents. -/
theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
/-- After the first point the output's buffer holds what the point before left. -/
theorem before1_8 (c : Dev nD) (t : Fin cfg1.N) (h0 : ¬t.val = 0) (d) :
    (dat1 V c).before 8 t d = (outsAt1 V c (t.val - 1) (Nat.lt_of_le_of_lt (Nat.sub_le _ _) t.isLt)) := by
  have hN : t.val < 16 := lt_of_lt_of_eq t.isLt (show cfg1.N = 16 from N_1)
  rw [Dat.before_out_kept _ 8 rfl t (by omega) (Bool.eq_false_iff.mpr fun h => by have := (flush1_8 _).mp h; dsimp only at this; omega)
    (fun _ => rfl) (fun _ _ => rfl)]
  dsimp only [dat1]

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 4000000 in
/-- The body at any point, by the case the point and its overflow bit are in. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = Phi1 V c (t.val + 1) from rfl, show (dat1 V c).Φ t.castSucc = Phi1 V c t.val from rfl,
    show (dat1 V c).owesAt () t.succ = (dat1 V c).owesAt () t.castSucc from rfl,
    after1_0, after1_1, after1_2, after1_3, after1_4, after1_5, after1_6, after1_7, after1_8]
  have hN : t.val < 16 := lt_of_lt_of_eq t.isLt (show cfg1.N = 16 from N_1)
  unfold Phi1
  by_cases ho : ovBit (iblk1 V c 6 t) = 1#1
  · have h1 : ¬cond1_1 (grid1.coords t) (ovBit (iblk1 V c 6 t)) := fun h => ((hcond1_1 t _).mp h).2 ho
    have h2 : ¬cond1_2 (ovBit (iblk1 V c 6 t)) := fun h => (hcond1_2 _).mp h ho
    have h3 : cond1_3 (ovBit (iblk1 V c 6 t)) := (hcond1_3 _).mpr ho
    have hs : ∀ d0 d1, ScrOk V c (t.val + 1) d0 d1 := fun d0 d1 t' e _ hn => by
      obtain rfl : t' = t := Fin.ext (Nat.succ.inj e)
      exact absurd ho hn
    by_cases h0 : t.val = 0
    · rw [outsAt1_zero V c t h0, step1, if_pos ho]
      iintro ⟨⟨%d9, %d10, %hΦ, H9, H10, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel1_B c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _ _ ((hcond1_0 t).mpr h0) h1 h2 h3 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [H10]; · iexact H10
      iintro ⟨H0, H1, H2, H3, H4, H5, H6, H7, H8, H9, H10⟩
      isplitl [H9 H10 Hp]
      · iexists d9; iexists d10; isplitr; · ipureintro; exact hs _ _
        isplitl [H9]; · iexact H9
        isplitl [H10]; · iexact H10
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [outsAt1_pos V c t h0, step1, if_pos ho]
      simp only [before1_8 V c t h0]
      iintro ⟨⟨%d9, %d10, %hΦ, H9, H10, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (kernel1_E c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _ _ _ (fun h => h0 ((hcond1_0 t).mp h)) h1 h2 h3 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [H9 H10 Hp]
      · iexists d9; iexists d10; isplitr; · ipureintro; exact hs _ _
        isplitl [H9]; · iexact H9
        isplitl [H10]; · iexact H10
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · have h2 : cond1_2 (ovBit (iblk1 V c 6 t)) := (hcond1_2 _).mpr ho
    have h3 : ¬cond1_3 (ovBit (iblk1 V c 6 t)) := fun h => ho ((hcond1_3 _).mp h)
    by_cases hk : t.val % 2 = 0
    · have h1 : cond1_1 (grid1.coords t) (ovBit (iblk1 V c 6 t)) := (hcond1_1 t _).mpr ⟨hk, ho⟩
      have hs : ScrOk V c (t.val + 1) (scr0 V c t) (scr1 V c t) := fun t' e _ hn => by
        obtain rfl : t' = t := Fin.ext (Nat.succ.inj e)
        exact ⟨rfl, rfl⟩
      by_cases h0 : t.val = 0
      · rw [outsAt1_zero V c t h0, step1, if_neg ho]
        unfold scr0 scr1
        iintro ⟨⟨%d9, %d10, %hΦ, H9, H10, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (kernel1_A c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) ((hcond1_0 t).mpr h0) h1 h2 h3 _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexists _; iexact H9
        isplitl [H10]; · iexists _; iexact H10
        iintro ⟨H0, H1, H2, H3, H4, H5, H6, H7, H8, H9, H10⟩
        isplitl [H9 H10 Hp]
        · iexists (k1_pay3 (iblk1 V c 3 t) (iblk1 V c 0 t)); iexists (k1_pay4 (iblk1 V c 5 t) (iblk1 V c 4 t)); isplitr; · ipureintro; exact hs
          isplitl [H9]; · iexact H9
          isplitl [H10]; · iexact H10
          iexact Hp
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
      · rw [outsAt1_pos V c t h0, step1, if_neg ho]
        simp only [before1_8 V c t h0]
        unfold scr0 scr1
        iintro ⟨⟨%d9, %d10, %hΦ, H9, H10, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply (kernel1_C c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _ (fun h => h0 ((hcond1_0 t).mp h)) h1 h2 h3 _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        iintro ⟨H0, H1, H2, H3, H4, H5, H6, H7, H8, H9, H10⟩
        isplitl [H9 H10 Hp]
        · iexists (k1_pay3 (iblk1 V c 3 t) (iblk1 V c 0 t)); iexists (k1_pay4 (iblk1 V c 5 t) (iblk1 V c 4 t)); isplitr; · ipureintro; exact hs
          isplitl [H9]; · iexact H9
          isplitl [H10]; · iexact H10
          iexact Hp
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexact H8
    · have h1 : ¬cond1_1 (grid1.coords t) (ovBit (iblk1 V c 6 t)) := fun h => hk ((hcond1_1 t _).mp h).1
      have h0 : ¬t.val = 0 := fun h => hk (by omega)
      have hs : ∀ d0 d1, ScrOk V c (t.val + 1) d0 d1 := fun d0 d1 t' e he _ => absurd he (by omega)
      rw [outsAt1_pos V c t h0, step1, if_neg ho]
      simp only [before1_8 V c t h0]
      iintro ⟨⟨%d9, %d10, %hΦ, H9, H10, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain ⟨e9, e10⟩ := hΦ ⟨t.val - 1, by omega⟩ (by dsimp only; omega) (by dsimp only; omega)
        (by rw [iblk1_same6 V c ⟨t.val - 1, by omega⟩ t (by dsimp only; omega)]; exact ho)
      rw [scr0_same V c ⟨t.val - 1, by omega⟩ t (by dsimp only; omega)] at e9
      rw [scr1_same V c ⟨t.val - 1, by omega⟩ t (by dsimp only; omega)] at e10
      subst e9 e10
      iapply (kernel1_D c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _ _ _ (fun h => h0 ((hcond1_0 t).mp h)) h1 h2 h3 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iintro ⟨H0, H1, H2, H3, H4, H5, H6, H7, H8, H9, H10⟩
      isplitl [H9 H10 Hp]
      · iexists (scr0 V c t); iexists (scr1 V c t); isplitr; · ipureintro; exact hs _ _
        isplitl [H9]; · iexact H9
        isplitl [H10]; · iexact H10
        iexact Hp
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.Ideal.Run.lean ====
/- The whole run: the router region, the host operations between, the expert region. -/
module

public import proofs.«01_k».proof.Proof.Ideal.Router
public import proofs.«01_k».proof.Proof.Ideal.Ffn

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4, main_v5, main_v6, main_v7, main_v8, main_v9, main_v10, main_v11, main_v12]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)
theorem W4_main_arg5 (c : Dev nD) : W4 m ρ c (Proc.devRef .tc main_arg5) = m ((c : Thread nD τ).loc main_arg5) :=
  W4_args m ρ c main_arg5 (by decide)
theorem W4_main_arg6 (c : Dev nD) : W4 m ρ c (Proc.devRef .tc main_arg6) = m ((c : Thread nD τ).loc main_arg6) :=
  W4_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Phi1 (V3 m ρ) c 0 from rfl]
    refine BI.BIBase.Entails.trans ?_ (Phi1_start (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = Phi1 (V3 m ρ) c cfg1.N from rfl]
    refine BI.BIBase.Entails.trans (Phi1_end (V3 m ρ) c _) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every weakly fair execution from zero counters terminates without a fault; at the end every unscoped buffer of each
    core holds what the fold through the four segments leaves there, and every counter is zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame claim: every argument array ends as it was launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c)⟩, h.2⟩) (run_all m ρ)

end Cert.KernelIdeal.Hand

end
-- ==== Proof.Value.Spec.lean ====
module

public import Idealize.ShloMosaic.Lib.SortPrefix
public import Idealize.ShloMosaic.Lib.IdealHost

@[expose] public section

set_option maxRecDepth 16384

noncomputable section

namespace Cert.Spec

open Idealize.ShloMosaic

/-! ## The two greatest entries of a row -/

/-- `a` is the first place of `S` where the row `l` is greatest on `S`. -/
def IsTop (l : Fin 8 → EReal) (S : Finset (Fin 8)) (a : Fin 8) : Prop :=
  a ∈ S ∧ ∀ e ∈ S, l e ≤ l a ∧ (e < a → l e < l a)

/-- Every nonempty set of places has a first greatest one. -/
theorem exists_isTop (l : Fin 8 → EReal) (S : Finset (Fin 8)) (hS : S.Nonempty) : ∃ a, IsTop l S a := by
  obtain ⟨m, hm, hmax⟩ := Finset.exists_max_image S l hS
  have hT : (S.filter fun e => l e = l m).Nonempty := ⟨m, by simp [hm]⟩
  refine ⟨(S.filter fun e => l e = l m).min' hT, ?_, fun e he => ?_⟩
  · exact (Finset.mem_filter.mp (Finset.min'_mem _ hT)).1
  · have h := (Finset.mem_filter.mp (Finset.min'_mem _ hT)).2
    rw [h]
    refine ⟨hmax e he, fun hlt => lt_of_le_of_ne (hmax e he) fun heq => ?_⟩
    exact absurd (Finset.min'_le _ e (Finset.mem_filter.mpr ⟨he, heq⟩)) (not_le.mpr hlt)

/-- `a` and `b` are the places of the greatest and the second greatest entry of the row `l`, first places first. -/
def Top2 (l : Fin 8 → EReal) (a b : Fin 8) : Prop :=
  IsTop l Finset.univ a ∧ IsTop l (Finset.univ.erase a) b

/-- Every row has its two greatest entries. -/
theorem exists_top2 (l : Fin 8 → EReal) : ∃ a b, Top2 l a b := by
  obtain ⟨a, ha⟩ := exists_isTop l Finset.univ ⟨0, Finset.mem_univ _⟩
  obtain ⟨b, hb⟩ := exists_isTop l (Finset.univ.erase a) (by
    rw [← Finset.card_pos, Finset.card_erase_of_mem (Finset.mem_univ _)]; simp)
  exact ⟨a, b, ha, hb⟩

/-- The two places differ. -/
theorem Top2.ne {l : Fin 8 → EReal} {a b : Fin 8} (h : Top2 l a b) : b ≠ a := (Finset.mem_erase.mp h.2.1).1

/-- The second entry is at most the first. -/
theorem Top2.le {l : Fin 8 → EReal} {a b : Fin 8} (h : Top2 l a b) : l b ≤ l a := (h.1.2 b (Finset.mem_univ _)).1

/-- The least word among "`x` where the mask holds, 8 elsewhere" is the first place where the mask holds. -/
theorem fold_minsi_mask : ∀ (P : Fin 8 → Bool) (a : Fin 8), P a = true → (∀ e, e < a → P e = false) →
    Finset.fold IntOp.minsi (2147483647#32) (fun x : Fin 8 => if P x = true then BitVec.ofNat 32 x.val else 8#32) Finset.univ
      = BitVec.ofNat 32 a.val := by
  decide +kernel

/-- Words of two different places of a row of eight are different. -/
theorem ofNat8_eq : ∀ e a : Fin 8, IntOp.cmpi .eq (BitVec.ofNat 32 e.val) (BitVec.ofNat 32 a.val) = BitVec.ofBool (decide (e = a)) := by
  decide +kernel

/-- The greatest entry of a row is the one at its first greatest place. -/
theorem fold_max_top {l : Fin 8 → EReal} {a : Fin 8} (ha : IsTop l Finset.univ a) : Finset.fold max ⊥ l Finset.univ = l a :=
  le_antisymm ((Finset.fold_max_le _).mpr ⟨bot_le, fun e he => (ha.2 e he).1⟩)
    ((Finset.le_fold_max _).mpr (.inr ⟨a, Finset.mem_univ _, le_rfl⟩))

/-- The row with the entry at `a` lowered to `⊥`. -/
def mask (l : Fin 8 → EReal) (a : Fin 8) : Fin 8 → EReal := fun x => if x = a then ⊥ else l x

/-- For a row without `⊥`, the second greatest place is the first greatest one once the greatest entry is lowered. -/
theorem isTop_mask {l : Fin 8 → EReal} (hl : ∀ e, l e ≠ ⊥) {a b : Fin 8} (h : Top2 l a b) : IsTop (mask l a) Finset.univ b := by
  refine ⟨Finset.mem_univ _, fun e _ => ?_⟩
  have hb : mask l a b = l b := if_neg h.ne
  rw [hb]
  by_cases he : e = a
  · rw [mask, if_pos he]; exact ⟨bot_le, fun _ => bot_lt_iff_ne_bot.mpr (hl b)⟩
  · rw [mask, if_neg he]; exact h.2.2 e (Finset.mem_erase.mpr ⟨he, Finset.mem_univ _⟩)

/-- The first greatest place, as the least masked word. -/
theorem fold_minsi_top {l : Fin 8 → EReal} {a : Fin 8} (ha : IsTop l Finset.univ a) :
    Finset.fold IntOp.minsi (2147483647#32) (fun x : Fin 8 => if l x = l a then BitVec.ofNat 32 x.val else 8#32) Finset.univ
      = BitVec.ofNat 32 a.val := by
  have h := fold_minsi_mask (fun x => decide (l x = l a)) a (by simp) fun e he => by
    simpa using ((ha.2 e (Finset.mem_univ _)).2 he).ne
  simpa using h

/-! ## The sort that takes them -/

/-- Two relations that agree on every later element against an earlier one sort an increasing list alike. -/
theorem stableSort_congr_lt {n : Nat} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- Place `k` comes before place `k'` in descending order. -/
def before (l : Fin 8 → EReal) (k k' : Fin 8) : Bool := Ideal.cmp .ogt (l k) (l k') == 1#1

/-- One place comes before another when its entry is strictly greater. -/
theorem before_eq (l : Fin 8 → EReal) (k k' : Fin 8) : before l k k' = decide (l k' < l k) := by
  unfold before Ideal.cmp
  by_cases h : l k' < l k <;> simp [h]

/-- The stable descending sort puts the two greatest entries first. -/
theorem sortedFrom_top2 {l : Fin 8 → EReal} {a b : Fin 8} (h : Top2 l a b) (i : Fin 2) :
    sortedFrom (before l) (i.castLE (by decide)) = (![a, b] : Fin 2 → Fin 8) i := by
  let B : Fin 8 → Fin 8 → Bool := fun k k' => decide (l k' < l k) || (decide (l k = l k') && decide (k < k'))
  have hB : StrictTotalBefore B := StrictTotalBefore.of_key_then_position (fun x y : EReal => decide (y < x)) l
    (by simp) (by simp only [decide_eq_true_eq]; exact fun x y z h1 h2 => h2.trans h1)
    (fun x y => by simp only [decide_eq_true_eq]; rcases lt_trichotomy x y with h | h | h <;> tauto)
  have hR : sortedFrom (before l) = sortedFrom B := by
    funext k
    unfold sortedFrom
    have e : sortPositions 8 (before l) = sortPositions 8 B :=
      stableSort_congr_lt _ _ (fun a b hab => by simp [B, before_eq, not_lt.mpr hab.le]) _ (List.pairwise_lt_finRange 8)
    rw [List.get_of_eq e]
    rfl
  rw [hR]
  have key : ∀ x y : Fin 8, (l x ≤ l y ∧ (x < y → l x < l y)) → B x y = false := fun x y hxy => by
    by_cases hlt : x < y
    · simp [B, hlt, not_lt.mpr hxy.1, (hxy.2 hlt).ne]
    · simp [B, hlt, not_lt.mpr hxy.1]
  refine hB.sortedFrom_eq_of_prefix (by decide) ![a, b] ?_ ?_ ?_ i
  · intro i j hij
    fin_cases i <;> fin_cases j <;> simp_all [h.ne, h.ne.symm]
  · intro i j hij
    fin_cases i <;> fin_cases j <;> simp at hij
    exact key _ _ (h.1.2 b (Finset.mem_univ _))
  · intro i p hp
    have hpa : p ≠ a := fun e => hp 0 e.symm
    fin_cases i
    · exact key _ _ (h.1.2 p (Finset.mem_univ _))
    · exact key _ _ (h.2.2 p (Finset.mem_erase.mpr ⟨hpa, Finset.mem_univ _⟩))

/-! ## The gate -/

/-- The weight of place `e`: the softmax of the two greatest entries at their places, zero elsewhere. -/
def gate (l : Fin 8 → EReal) (a b e : Fin 8) : EReal :=
  (if e = a then Ideal.div 1 (1 + Ideal.exp (l b - l a)) else 0)
    + (if e = b then Ideal.div (Ideal.exp (l b - l a)) (1 + Ideal.exp (l b - l a)) else 0)

/-- Every entry of the row is a real number. -/
def Finite (l : Fin 8 → EReal) : Prop := ∀ e, ∃ r : ℝ, l e = (r : EReal)

/-- The exponential of a real number. -/
theorem exp_coe (r : ℝ) : Ideal.exp (r : EReal) = (Real.exp r : EReal) := rfl

/-- The quotient of two real numbers. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The gate of the greatest entry. -/
theorem gate_first (x y : ℝ) : Ideal.div 1 (1 + Ideal.exp ((y : EReal) - (x : EReal))) = ((1 / (1 + Real.exp (y - x)) : ℝ) : EReal) := by
  rw [← EReal.coe_sub, exp_coe, ← EReal.coe_one, ← EReal.coe_add, div_coe _ _ (by positivity)]

/-- The gate of the second entry. -/
theorem gate_second (x y : ℝ) : Ideal.div (Ideal.exp ((y : EReal) - (x : EReal))) (1 + Ideal.exp ((y : EReal) - (x : EReal)))
    = ((Real.exp (y - x) / (1 + Real.exp (y - x)) : ℝ) : EReal) := by
  rw [← EReal.coe_sub, exp_coe, ← EReal.coe_one, ← EReal.coe_add, div_coe _ _ (by positivity)]

/-- On a row of real numbers a weight is a nonnegative real number, positive exactly at the two greatest places. -/
theorem gate_real {l : Fin 8 → EReal} (hl : Finite l) (a b e : Fin 8) :
    ∃ r : ℝ, gate l a b e = (r : EReal) ∧ 0 ≤ r ∧ (0 < r ↔ e = a ∨ e = b) := by
  obtain ⟨x, hx⟩ := hl a
  obtain ⟨y, hy⟩ := hl b
  have h1 : 0 < 1 / (1 + Real.exp (y - x)) := by positivity
  have h2 : 0 < Real.exp (y - x) / (1 + Real.exp (y - x)) := by positivity
  refine ⟨(if e = a then 1 / (1 + Real.exp (y - x)) else 0) + (if e = b then Real.exp (y - x) / (1 + Real.exp (y - x)) else 0), ?_, ?_, ?_⟩
  · unfold gate
    rw [hx, hy, gate_first, gate_second]
    split <;> split <;> simp
  · split <;> split <;> linarith
  · by_cases hea : e = a <;> by_cases heb : e = b
    · simp only [hea, heb, if_true]; exact ⟨fun _ => .inl trivial, fun _ => by split <;> linarith⟩
    · simp only [hea, if_true, true_or, iff_true]; split <;> linarith
    · simp only [heb, if_true, or_true, iff_true]; split <;> linarith
    · simp [hea, heb]

/-- The softmax spelt with the logarithm of the sum of exponentials, at the greatest entry. -/
theorem lse_first (x y : ℝ) (hyx : y ≤ x) :
    Ideal.exp ((x : EReal) - ((x : EReal) + Ideal.log (Ideal.exp ((x : EReal) - x) + Ideal.exp ((y : EReal) - x))))
      = Ideal.div 1 (1 + Ideal.exp ((y : EReal) - (x : EReal))) := by
  have hp : 0 < 1 + Real.exp (y - x) := by positivity
  have e : Ideal.log (Ideal.exp ((x : EReal) - x) + Ideal.exp ((y : EReal) - x)) = (Real.log (1 + Real.exp (y - x)) : EReal) := by
    rw [← EReal.coe_sub, ← EReal.coe_sub, exp_coe, exp_coe, sub_self, Real.exp_zero, ← EReal.coe_add]
    exact if_neg (not_le.mpr hp)
  rw [e, gate_first, ← EReal.coe_add, ← EReal.coe_sub, exp_coe]
  congr 1
  rw [show x - (x + Real.log (1 + Real.exp (y - x))) = -Real.log (1 + Real.exp (y - x)) by ring, Real.exp_neg, Real.exp_log hp, one_div]

/-- The softmax spelt with the logarithm of the sum of exponentials, at the second greatest entry. -/
theorem lse_second (x y : ℝ) (hyx : y ≤ x) :
    Ideal.exp ((y : EReal) - ((x : EReal) + Ideal.log (Ideal.exp ((x : EReal) - x) + Ideal.exp ((y : EReal) - x))))
      = Ideal.div (Ideal.exp ((y : EReal) - (x : EReal))) (1 + Ideal.exp ((y : EReal) - (x : EReal))) := by
  have hp : 0 < 1 + Real.exp (y - x) := by positivity
  have e : Ideal.log (Ideal.exp ((x : EReal) - x) + Ideal.exp ((y : EReal) - x)) = (Real.log (1 + Real.exp (y - x)) : EReal) := by
    rw [← EReal.coe_sub, ← EReal.coe_sub, exp_coe, exp_coe, sub_self, Real.exp_zero, ← EReal.coe_add]
    exact if_neg (not_le.mpr hp)
  rw [e, gate_second, ← EReal.coe_add, ← EReal.coe_sub, exp_coe]
  congr 1
  rw [show y - (x + Real.log (1 + Real.exp (y - x))) = (y - x) - Real.log (1 + Real.exp (y - x)) by ring, Real.exp_sub, Real.exp_log hp]

/-! ## The activation -/

/-- The bits of a half. -/
theorem half_f32 : Ideal.ofBits .f32 0x3F000000#32 = ((1 / 2 : ℝ) : EReal) := by
  simp [Ideal.ofBits, Ideal.ieee]; rw [← EReal.coe_mul]; norm_num

/-- The activation spelt with the error function and with its complement. -/
theorem gelu_eq (h c : EReal) :
    h * (Ideal.ofBits .f32 0x3F000000#32 + Ideal.ofBits .f32 0x3F000000#32 * Ideal.erf (h * c))
      = Ideal.ofBits .f32 0x3F000000#32 * h * Ideal.erfc (-h * c) := by
  have hd : ((1 / 2 : ℝ) : EReal) + ((1 / 2 : ℝ) : EReal) * Ideal.erf (h * c) = ((1 / 2 : ℝ) : EReal) * (1 + Ideal.erf (h * c)) := by
    rw [EReal.left_distrib_of_nonneg_of_ne_top (by norm_cast; norm_num) (EReal.coe_ne_top _), mul_one]
  rw [EReal.neg_mul, Ideal.erfc_neg, half_f32, hd, ← mul_assoc, mul_comm h]

/-! ## The slots of an expert -/

/-- How many marked tokens come before token `x`. -/
def rk (p : Fin 768 → Prop) [DecidablePred p] (x : Fin 768) : Nat := (Finset.univ.filter fun j => j < x ∧ p j).card

/-- Token `x` sits at slot `s`. -/
def At (p : Fin 768 → Prop) [DecidablePred p] (x : Fin 768) (s : Nat) : Prop := p x ∧ rk p x = s

/-- Whether a token sits at a slot can be decided. -/
instance (p : Fin 768 → Prop) [DecidablePred p] (x : Fin 768) (s : Nat) : Decidable (At p x s) := by unfold At; infer_instance

/-- Ranks grow along the marked tokens. -/
theorem rk_lt {p : Fin 768 → Prop} [DecidablePred p] {x y : Fin 768} (hx : p x) (hxy : x < y) : rk p x < rk p y := by
  refine Finset.card_lt_card (Finset.ssubset_iff_of_subset ?_ |>.mpr ⟨x, by simp [hx, hxy], by simp⟩)
  intro j hj
  simp only [Finset.mem_filter, Finset.mem_univ, true_and] at hj ⊢
  exact ⟨hj.1.trans hxy, hj.2⟩

/-- A marked token's rank is below the number of marked tokens. -/
theorem rk_lt_card {p : Fin 768 → Prop} [DecidablePred p] {x : Fin 768} (hx : p x) : rk p x < (Finset.univ.filter p).card := by
  refine Finset.card_lt_card (Finset.ssubset_iff_of_subset ?_ |>.mpr ⟨x, by simp [hx], by simp⟩)
  intro j hj
  simp only [Finset.mem_filter, Finset.mem_univ, true_and] at hj ⊢
  exact hj.2

/-- At most one token sits at a slot. -/
theorem At.unique {p : Fin 768 → Prop} [DecidablePred p] {x y : Fin 768} {s : Nat} (hx : At p x s) (hy : At p y s) : x = y := by
  rcases lt_trichotomy x y with h | h | h
  · have := rk_lt hx.1 h; rw [hx.2, hy.2] at this; omega
  · exact h
  · have := rk_lt hy.1 h; rw [hx.2, hy.2] at this; omega

/-- The slot's indicator at a token, as a number. -/
def ind (p : Fin 768 → Prop) [DecidablePred p] (x : Fin 768) (s : Nat) : EReal := if At p x s then 1 else 0

/-- A sum against an occupied slot's indicator is the summand at the slot's token. -/
theorem sum_ind_at {p : Fin 768 → Prop} [DecidablePred p] {x : Fin 768} {s : Nat} (hx : At p x s) (f : Fin 768 → EReal) :
    ∑ j, f j * ind p j s = f x := by
  rw [Finset.sum_eq_single x]
  · rw [ind, if_pos hx, mul_one]
  · intro j _ hj
    rw [ind, if_neg fun h => hj (h.unique hx), mul_zero]
  · exact fun h => absurd (Finset.mem_univ _) h

/-- A sum against an empty slot's indicator vanishes. -/
theorem sum_ind_empty {p : Fin 768 → Prop} [DecidablePred p] {s : Nat} (hs : ¬∃ x, At p x s) (f : Fin 768 → EReal) :
    ∑ j, f j * ind p j s = 0 :=
  Finset.sum_eq_zero fun j _ => by rw [ind, if_neg fun h => hs ⟨j, h⟩, mul_zero]

/-- A sum over the slots, each of which holds its token's summand or nothing, is the sum over the marked tokens. -/
theorem sum_slots {p : Fin 768 → Prop} [DecidablePred p] (hc : (Finset.univ.filter p).card ≤ 256) (G : Fin 256 → EReal)
    (g : Fin 768 → EReal) (h1 : ∀ (s : Fin 256) x, At p x s.val → G s = g x) (h0 : ∀ s : Fin 256, (¬∃ x, At p x s.val) → G s = 0) :
    ∑ s, G s = ∑ x, if p x then g x else 0 := by
  have hG : ∀ s : Fin 256, G s = ∑ x, if At p x s.val then g x else 0 := fun s => by
    by_cases hs : ∃ x, At p x s.val
    · obtain ⟨x, hx⟩ := hs
      rw [h1 s x hx, Finset.sum_eq_single x, if_pos hx]
      · exact fun j _ hj => if_neg fun h => hj (h.unique hx)
      · exact fun h => absurd (Finset.mem_univ _) h
    · rw [h0 s hs]
      exact (Finset.sum_eq_zero fun x _ => if_neg fun h => hs ⟨x, h⟩).symm
  simp only [hG]
  rw [Finset.sum_comm]
  refine Finset.sum_congr rfl fun x _ => ?_
  by_cases hx : p x
  · rw [if_pos hx, Finset.sum_eq_single ⟨rk p x, (rk_lt_card hx).trans_le hc⟩, if_pos ⟨hx, rfl⟩]
    · exact fun s _ hs => if_neg fun h => hs (Fin.ext h.2.symm)
    · exact fun h => absurd (Finset.mem_univ _) h
  · rw [if_neg hx]
    exact Finset.sum_eq_zero fun s _ => if_neg fun h => hx h.1

end Cert.Spec
-- ==== Proof.Value.Router.lean ====
module

public import proofs.«01_k».proof.Proof.Ideal.Run
public import proofs.«01_k».proof.Proof.Value.Spec
public import Idealize.ShloMosaic.Lib.Pointwise

@[expose] public section

set_option maxRecDepth 16384

noncomputable section

namespace Cert.KernelIdeal.Hand

open Cert.KernelIdeal Cert.KernelIdeal.Gen Cert.Spec
open Idealize.ShloMosaic

/-- The bits of minus infinity. -/
theorem negInf_f32 : Ideal.ofBits .f32 0xFF800000#32 = ⊥ := by simp [Ideal.ofBits, Ideal.ieee]

/-- The bits of 256. -/
theorem c256_f32 : Ideal.ofBits .f32 0x43800000#32 = ((256 : ℝ) : EReal) := by
  simp [Ideal.ofBits, Ideal.ieee]; rw [← EReal.coe_mul]; norm_num

/-- The bits of 1/256. -/
theorem c1_256_f32 : Ideal.ofBits .f32 0x3B800000#32 = ((1 / 256 : ℝ) : EReal) := by
  simp [Ideal.ofBits, Ideal.ieee]; rw [← EReal.coe_mul]; norm_num

/-- The floor division of a column's word by 8, spelt with the truncating one. -/
theorem fdiv8 (n : Nat) (hn : n < 24) :
    Scalar.select
      (IntOp.andi
        (IntOp.cmpi CmpIPredicate.ne
          (IntOp.subi (BitVec.setWidth 32 (IntOp.cmpi CmpIPredicate.sgt (BitVec.ofNat 32 n) 0#32))
            (BitVec.setWidth 32 (IntOp.cmpi CmpIPredicate.slt (BitVec.ofNat 32 n) 0#32)))
          (Scalar.subi (Scalar.extui (Scalar.cmpi CmpIPredicate.sgt 8#32 0#32))
            (Scalar.extui (Scalar.cmpi CmpIPredicate.slt 8#32 0#32))))
        (IntOp.cmpi CmpIPredicate.ne (IntOp.remsi ArithUnit.vector (BitVec.ofNat 32 n) 8#32) 0#32))
      (IntOp.subi (IntOp.divsi ArithUnit.vector (BitVec.ofNat 32 n) 8#32) 1#32)
      (IntOp.divsi ArithUnit.vector (BitVec.ofNat 32 n) 8#32) = BitVec.ofNat 32 (n / 8) := by
  have h : ∀ n : Fin 24, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 8#32 0#32))
            (Scalar.extui (Scalar.cmpi CmpIPredicate.slt 8#32 0#32))))
        (IntOp.cmpi CmpIPredicate.ne (IntOp.remsi ArithUnit.vector (BitVec.ofNat 32 n.val) 8#32) 0#32))
      (IntOp.subi (IntOp.divsi ArithUnit.vector (BitVec.ofNat 32 n.val) 8#32) 1#32)
      (IntOp.divsi ArithUnit.vector (BitVec.ofNat 32 n.val) 8#32) = BitVec.ofNat 32 (n.val / 8) := by decide +kernel
  exact h ⟨n, hn⟩

/-- The floor division of a token's word by 256, spelt with the truncating one. -/
theorem fdiv256 : ∀ n : Fin 768, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 n.val) 256#32) 0#32))
      (IntOp.subi (IntOp.divsi ArithUnit.vector (BitVec.ofNat 32 n.val) 256#32) 1#32)
      (IntOp.divsi ArithUnit.vector (BitVec.ofNat 32 n.val) 256#32) = BitVec.ofNat 32 (n.val / 256) := by decide +kernel

/-- The router's score of token `i` for expert `e`: minus the squared distance to the key, plus the product with the
    router row of the token's own view. -/
def score (x : Vec Ideal S768x768 .f32) (k : Vec Ideal S8x768 .f32) (r : Vec Ideal S24x768 .f32) (i : Fin 768) (e : Fin 8) : EReal :=
  0 - max (∑ d : Fin 768, x (ix2 i d) * x (ix2 i d) + ∑ d : Fin 768, k (ix2 e d) * k (ix2 e d)
        - Ideal.ofBits FTy.f32 1073741824#32 * ∑ d : Fin 768, x (ix2 i d) * k (ix2 e d)) 0
    + ∑ d : Fin 768, x (ix2 i d) * r (ix2 (⟨i.val / 256 * 8 + e.val, by omega⟩ : Fin 24) d)

/-- The first launch's logits are the router's scores. -/
theorem logits_val (x : Vec Ideal S768x768 .f32) (k : Vec Ideal S8x768 .f32) (r : Vec Ideal S24x768 .f32) (i : Fin 768) (e : Fin 8) :
    k0_pay68 x k r (ix2 i e) = score x k r i e := by
  have h6 : k0_pay62 x k r (ix2 i e) = max (∑ d : Fin 768, x (ix2 i d) * x (ix2 i d) + ∑ d : Fin 768, k (ix2 e d) * k (ix2 e d)
        - Ideal.ofBits FTy.f32 1073741824#32 * ∑ d : Fin 768, x (ix2 i d) * k (ix2 e d)) 0 := by
    unfold k0_pay62
    rw [View.ld_unit_lit _ _ (by decide), View.ld_unit_lit _ _ (by decide)]
    pointwise [k0_pay6, k0_pay5]
  have h7 : ∀ q : Fin 24, k0_pay63 x k r (ix2 i q) = ∑ d : Fin 768, x (ix2 i d) * r (ix2 q d) := fun q => by
    unfold k0_pay63
    rw [View.ld_unit_lit _ _ (by decide), View.ld_unit_lit _ _ (by decide)]
    pointwise [k0_pay7, k0_pay5]
  unfold score
  rw [← h6, ← h7]
  generalize hA : k0_pay62 x k r = A
  generalize hB : k0_pay63 x k r = B
  unfold k0_pay68 k0_pay61 k0_pay64 k0_pay65 k0_pay66
  rw [hA, hB]
  pointwise [k0_pay11, k0_pay8, k0_pay9, k0_pay10]
  rw [fdiv8 e.val (by omega), fdiv8 (8 + e.val) (by omega), fdiv8 (16 + e.val) (by omega), fdiv256 i,
    show e.val / 8 = 0 by omega, show (8 + e.val) / 8 = 1 by omega, show (16 + e.val) / 8 = 2 by omega]
  have hi : i.val / 256 = 0 ∨ i.val / 256 = 1 ∨ i.val / 256 = 2 := by omega
  congr 1
  rcases hi with h | h | h <;> simp only [h] <;> simp [Scalar.select, IntOp.cmpi]

/-- A masked row's least word, with the mask spelt as a select. -/
theorem fold_minsi_select {l : Fin 8 → EReal} {a : Fin 8} (ha : IsTop l Finset.univ a) (g : Fin 8 → BitVec 1)
    (hg : ∀ x, g x = BitVec.ofBool (decide (l x = l a))) :
    Finset.fold IntOp.minsi (2147483647#32) (fun x : Fin 8 => Scalar.select (g x) (BitVec.ofNat 32 x.val) 8#32) Finset.univ
      = BitVec.ofNat 32 a.val := by
  rw [← fold_minsi_top ha]
  congr 1
  funext x
  rw [hg]
  by_cases h : l x = l a <;> simp [h, Scalar.select]

/-- The first launch's weight of token `i` for expert `e`. -/
theorem gate_val (A : FVec Ideal S768x8 .f32) (m : FVec Ideal S768x1 .f32) (g : IVec S768x8 1) (i : Fin 768) (e : Fin 8) {a b : Fin 8}
    (hl : Finite fun e : Fin 8 => A (ix2 i e)) (h : Top2 (fun e : Fin 8 => A (ix2 i e)) a b) (hm : m (ix2 i (0 : Fin 1)) = A (ix2 i a))
    (hg : ∀ x : Fin 8, g (ix2 i x) = BitVec.ofBool (decide (A (ix2 i x) = A (ix2 i a)))) :
    k0_pay14 A (iota .tc S768x8 32 [1] iota_S768x8_d1_w32) m g (ix2 i e) = gate (fun e : Fin 8 => A (ix2 i e)) a b e := by
  have hmask : (fun x : Fin 8 => Scalar.select (IntOp.cmpi .eq (BitVec.ofNat 32 x.val) (BitVec.ofNat 32 a.val)) (⊥ : EReal) (A (ix2 i x)))
      = mask (fun e : Fin 8 => A (ix2 i e)) a := by
    funext x
    rw [ofNat8_eq]
    by_cases hx : x = a <;> simp [hx, Scalar.select, mask]
  have hbot : ∀ e : Fin 8, A (ix2 i e) ≠ ⊥ := fun e => by obtain ⟨r, hr⟩ := hl e; exact hr.trans_ne (EReal.coe_ne_bot r)
  have hT := isTop_mask hbot h
  have hb : mask (fun e : Fin 8 => A (ix2 i e)) a b = A (ix2 i b) := if_neg h.ne
  pointwise [k0_pay14]
  simp only [fold_minsi_select h.1 (fun x => g (ix2 i x)) hg, negInf_f32]
  have h2 : ∀ x : Fin 8, Scalar.select (IntOp.cmpi .eq (BitVec.ofNat 32 x.val) (BitVec.ofNat 32 a.val)) (⊥ : EReal) (A (ix2 i x))
      = mask (fun e : Fin 8 => A (ix2 i e)) a x := fun x => congrFun hmask x
  simp only [h2]
  rw [fold_max_top hT, fold_minsi_top hT, hb, hm, ofNat8_eq, ofNat8_eq, gate]
  congr 1
  · by_cases hx : e = a <;> simp [hx, Scalar.select]
  · by_cases hx : e = b <;> simp [hx, Scalar.select]

/-! ## The first launch's five results -/

/-- A natural number as an extended real. -/
def N (n : Nat) : EReal := ((n : ℝ) : EReal)

/-- Different natural numbers stay different. -/
theorem N_inj {m n : Nat} : N m = N n ↔ m = n := by unfold N; exact_mod_cast Iff.rfl

/-- A small word as a number. -/
theorem sitofp_ofNat (n : Nat) (hn : n < 1000) : (FloatOps.sitofp .f32 (BitVec.ofNat 32 n) : Ideal .f32) = N n := by
  have h : (BitVec.ofNat 32 n).toInt = (n : ℤ) := by
    rw [BitVec.toInt_eq_toNat_cond, BitVec.toNat_ofNat, Nat.mod_eq_of_lt (by omega)]
    exact if_pos (by omega)
  show (((BitVec.ofNat 32 n).toInt : ℝ) : EReal) = N n
  rw [h]; rfl

/-- A bit, widened, as a number. -/
theorem sitofp_bit (c : Bool) : (FloatOps.sitofp .f32 (BitVec.setWidth 32 (BitVec.ofBool c)) : Ideal .f32) = if c then 1 else 0 := by
  show ((((BitVec.setWidth 32 (BitVec.ofBool c)).toInt : ℝ)) : EReal) = _
  cases c <;> simp

/-- The conjunction of two bits. -/
theorem and_ofBool (c d : Bool) : IntOp.andi (BitVec.ofBool c) (BitVec.ofBool d) = BitVec.ofBool (c && d) := by
  cases c <;> cases d <;> decide

/-- The place of a token's greatest score. -/
def topA (x : Vec Ideal S768x768 .f32) (k : Vec Ideal S8x768 .f32) (r : Vec Ideal S24x768 .f32) (i : Fin 768) : Fin 8 :=
  (exists_top2 (score x k r i)).choose
/-- The place of a token's second greatest score. -/
def topB (x : Vec Ideal S768x768 .f32) (k : Vec Ideal S8x768 .f32) (r : Vec Ideal S24x768 .f32) (i : Fin 768) : Fin 8 :=
  (exists_top2 (score x k r i)).choose_spec.choose

/-- `topA` and `topB` are the places of the two greatest scores. -/
theorem top_spec (x : Vec Ideal S768x768 .f32) (k : Vec Ideal S8x768 .f32) (r : Vec Ideal S24x768 .f32) (i : Fin 768) :
    Top2 (score x k r i) (topA x k r i) (topB x k r i) := (exists_top2 (score x k r i)).choose_spec.choose_spec

/-- The weight of token `i` for expert `e`. -/
def wt (x : Vec Ideal S768x768 .f32) (k : Vec Ideal S8x768 .f32) (r : Vec Ideal S24x768 .f32) (i : Fin 768) (e : Fin 8) : EReal :=
  gate (score x k r i) (topA x k r i) (topB x k r i) e

section
variable (x : Vec Ideal S768x768 .f32) (k : Vec Ideal S8x768 .f32) (r : Vec Ideal S24x768 .f32)
variable (hl : ∀ i, Finite (score x k r i))
include hl

/-- The weights the router computes are the gates of the two greatest scores. -/
theorem pay14_val (i : Fin 768) (e : Fin 8) :
    k0_pay14 (k0_pay68 x k r) (k0_pay67 x k r) (k0_pay69 x k r) (k0_pay70 x k r) (ix2 i e) = wt x k r i e := by
  have hs : (fun e : Fin 8 => k0_pay68 x k r (ix2 i e)) = score x k r i := funext fun e => logits_val x k r i e
  have hm : k0_pay69 x k r (ix2 i (0 : Fin 1)) = k0_pay68 x k r (ix2 i (topA x k r i)) := by
    have h1 : k0_pay69 x k r (ix2 i (0 : Fin 1)) = Finset.fold max ⊥ (fun e : Fin 8 => k0_pay68 x k r (ix2 i e)) Finset.univ := by
      rw [← negInf_f32]
      unfold k0_pay69 k0_pay12
      rw [show k0_pay11 (k0_pay62 x k r) (k0_pay63 x k r) (k0_pay61 x k r) (k0_pay64 x k r) (k0_pay65 x k r) (k0_pay66 x k r) 0#32 = k0_pay68 x k r from rfl]
      generalize k0_pay68 x k r = A
      pointwise
    rw [h1, hs, fold_max_top (top_spec x k r i).1, logits_val]
  have hg : ∀ e : Fin 8, k0_pay70 x k r (ix2 i e) = BitVec.ofBool (decide (k0_pay68 x k r (ix2 i e) = k0_pay68 x k r (ix2 i (topA x k r i)))) := fun e => by
    rw [← hm]
    unfold k0_pay70 k0_pay13
    rw [show k0_pay11 (k0_pay62 x k r) (k0_pay63 x k r) (k0_pay61 x k r) (k0_pay64 x k r) (k0_pay65 x k r) (k0_pay66 x k r) 0#32 = k0_pay68 x k r from rfl,
      show k0_pay12 (k0_pay62 x k r) (k0_pay63 x k r) (k0_pay61 x k r) (k0_pay64 x k r) (k0_pay65 x k r) (k0_pay66 x k r) 0#32 = k0_pay69 x k r from rfl]
    generalize k0_pay68 x k r = A
    generalize k0_pay69 x k r = B
    pointwise
  have h := gate_val (k0_pay68 x k r) (k0_pay69 x k r) (k0_pay70 x k r) i e (a := topA x k r i) (b := topB x k r i)
    (by rw [hs]; exact hl i) (by rw [hs]; exact top_spec x k r i) hm hg
  rw [hs] at h
  exact h

/-- The transposed weights. -/
theorem pay71_val (i : Fin 768) (e : Fin 8) : k0_pay71 x k r (ix2 e i) = wt x k r i e := by
  rw [← pay14_val x k r hl]
  unfold k0_pay71 k0_pay15
  generalize k0_pay14 (k0_pay68 x k r) (k0_pay67 x k r) (k0_pay69 x k r) (k0_pay70 x k r) = A
  pointwise

/-- The mask of the chosen experts. -/
theorem pay72_val (i : Fin 768) (e : Fin 8) : k0_pay72 x k r (ix2 i e) = if 0 < wt x k r i e then 1 else 0 := by
  rw [← pay14_val x k r hl]
  unfold k0_pay72 k0_pay17
  generalize k0_pay14 (k0_pay68 x k r) (k0_pay67 x k r) (k0_pay69 x k r) (k0_pay70 x k r) = A
  pointwise
  rw [sitofp_bit]
  simp

/-- The tokens of expert `e`. -/
abbrev chosen (e : Fin 8) (i : Fin 768) : Prop := 0 < wt x k r i e

omit hl in
/-- A sum of zeros and ones counts the ones. -/
theorem sum_ones {ι : Type} (S : Finset ι) (p : ι → Prop) [DecidablePred p] :
    ∑ j ∈ S, (if p j then (1 : EReal) else 0) = N (S.filter p).card := by
  rw [Finset.sum_ite, Finset.sum_const_zero, add_zero, Finset.sum_const]
  simp [N]

/-- A token's rank among its expert's tokens. -/
theorem pay73_val (i : Fin 768) (e : Fin 8) : k0_pay73 x k r (ix2 i e) = N (rk (chosen x k r e) i) := by
  have h : k0_pay73 x k r (ix2 i e) = ∑ j : Fin 768, (FloatOps.sitofp (F := Ideal) FTy.f32
          (BitVec.setWidth 32 (IntOp.cmpi CmpIPredicate.slt (BitVec.ofNat 32 j.val) (BitVec.ofNat 32 i.val))) : EReal) * k0_pay72 x k r (ix2 j e) := by
    unfold k0_pay73
    generalize k0_pay72 x k r = A
    pointwise [k0_pay18]
  rw [h, rk, ← sum_ones]
  refine Finset.sum_congr rfl fun j _ => ?_
  have hlt : IntOp.cmpi CmpIPredicate.slt (BitVec.ofNat 32 j.val) (BitVec.ofNat 32 i.val) = BitVec.ofBool (decide (j < i)) := by
    have h1 : ∀ n : Fin 768, (BitVec.ofNat 32 n.val).toInt = (n.val : ℤ) := fun n => by
      rw [BitVec.toInt_eq_toNat_cond, BitVec.toNat_ofNat, Nat.mod_eq_of_lt (by omega)]
      exact if_pos (by omega)
    simp [IntOp.cmpi, BitVec.slt, h1]
  rw [pay72_val x k r hl, hlt, sitofp_bit]
  by_cases hj : j < i <;> simp [hj]

omit hl in
/-- The slot numbers. -/
theorem pay78_val (i : Fin 768) (s : Fin 256) : k0_pay78 x k r (ix2 i s) = N s.val := by
  unfold k0_pay78
  pointwise [k0_pay25]
  exact sitofp_ofNat _ (by omega)

omit hl in
/-- The floor of a token's number over 256 is its view. -/
theorem floor_val (i : Fin 768) :
    Ideal.liftRound Int.floor (FloatOps.sitofp (F := Ideal) FTy.f32 (BitVec.ofNat 32 i.val) * Ideal.ofBits FTy.f32 998244352#32) = N (i.val / 256) := by
  rw [sitofp_ofNat _ (by omega), show (998244352#32 : BitVec 32) = 0x3B800000#32 from rfl, c1_256_f32, N, ← EReal.coe_mul]
  show (((⌊(i.val : ℝ) * (1 / 256)⌋ : ℤ) : ℝ) : EReal) = _
  have : ⌊(i.val : ℝ) * (1 / 256)⌋ = ((i.val / 256 : ℕ) : ℤ) := by
    have h1 : ((256 * (i.val / 256) : ℕ) : ℝ) ≤ (i.val : ℝ) := by exact_mod_cast Nat.mul_div_le i.val 256
    have h2 : (i.val : ℝ) < ((256 * (i.val / 256) + 256 : ℕ) : ℝ) := by exact_mod_cast (by omega)
    push_cast at h1 h2
    rw [Int.floor_eq_iff, Int.cast_natCast]
    constructor <;> linarith
  rw [this, N]
  norm_cast

omit hl in
/-- The tokens' views. -/
theorem pay74_val (i : Fin 768) : k0_pay74 x k r (ix2 (0 : Fin 1) i) = N (i.val / 256) := by
  unfold k0_pay74
  pointwise [k0_pay21, k0_pay20]
  exact floor_val i

omit hl in
/-- The tokens' places in their views. -/
theorem pay75_val (i : Fin 768) : k0_pay75 x k r (ix2 (0 : Fin 1) i) = N (i.val % 256) := by
  unfold k0_pay75
  pointwise [k0_pay22, k0_pay20]
  rw [floor_val, sitofp_ofNat _ (by omega), show (1132462080#32 : BitVec 32) = 0x43800000#32 from rfl, c256_f32]
  unfold N
  rw [← EReal.coe_mul, ← EReal.coe_sub]
  congr 1
  have h : (i.val : ℝ) = ((256 * (i.val / 256) + i.val % 256 : ℕ) : ℝ) := by rw [Nat.div_add_mod]
  rw [h]; push_cast
  ring

/-- The slot's indicator as the launch computes it, from the mask, the ranks and the slots' numbers. -/
def raw (A : FVec Ideal S768x8 .bf16) (B : FVec Ideal S768x8 .f32) (D : FVec Ideal S768x256 .f32) (i : Fin 768) (s : Fin 256) (e : Fin 8) : EReal :=
  FloatOps.sitofp (F := Ideal) FTy.f32
          (BitVec.setWidth 32
            (IntOp.andi (BitVec.ofBool (decide (B (ix2 i e) = D (ix2 i s)))) (BitVec.ofBool (decide (0 < A (ix2 i e))))))

/-- It is the indicator of the token's slot. -/
theorem raw_val (i : Fin 768) (s : Fin 256) (e : Fin 8) :
    raw (k0_pay72 x k r) (k0_pay73 x k r) (k0_pay78 x k r) i s e = ind (chosen x k r e) i s.val := by
  rw [raw, pay73_val x k r hl, pay78_val, pay72_val x k r hl, and_ofBool, sitofp_bit, ind]
  congr 1
  simp only [Bool.and_eq_true, decide_eq_true_eq, N_inj, At, eq_iff_iff]
  constructor
  · rintro ⟨h1, h2⟩
    refine ⟨?_, h1⟩
    by_contra hc
    rw [if_neg hc] at h2
    exact lt_irrefl _ h2
  · rintro ⟨h1, h2⟩
    exact ⟨h2, by rw [if_pos h1]; exact zero_lt_one⟩

/-- The weights the first launch returns. -/
theorem out0_3_val (i : Fin 768) (e : Fin 8) : out0_3 x k r (ix3 e (0 : Fin 1) i) = wt x k r i e := by
  unfold out0_3
  rw [View.canon_unit_zero (by funext a; fin_cases a <;> rfl), ← pay71_val x k r hl]
  unfold k0_pay16
  rw [show k0_pay15 (k0_pay68 x k r) (k0_pay67 x k r) (k0_pay69 x k r) (k0_pay70 x k r) = k0_pay71 x k r from rfl]
  generalize k0_pay71 x k r = A
  pointwise

/-- The overflow flags the first launch returns. -/
theorem out0_7_val (e : Fin 8) (l : Fin 128) :
    out0_7 x k r (ix3 e (0 : Fin 1) l) = if 256 < (Finset.univ.filter (chosen x k r e)).card then 1 else 0 := by
  have h : k0_pay19 (k0_pay72 x k r) (ix1 e) = N (Finset.univ.filter (chosen x k r e)).card := by
    have h1 : k0_pay19 (k0_pay72 x k r) (ix1 e) = ∑ j : Fin 768, k0_pay72 x k r (ix2 j e) := by
      generalize k0_pay72 x k r = A
      pointwise [k0_pay19]
    rw [h1, ← sum_ones]
    exact Finset.sum_congr rfl fun j _ => pay72_val x k r hl j e
  unfold out0_7
  rw [View.canon_unit_zero (by funext a; fin_cases a <;> rfl)]
  generalize k0_pay19 (k0_pay72 x k r) = A at h
  pointwise [k0_pay4]
  rw [h, sitofp_bit, show (1132462080#32 : BitVec 32) = 0x43800000#32 from rfl, c256_f32, N]
  congr 1
  simp only [decide_eq_true_eq, eq_iff_iff, EReal.coe_lt_coe_iff]
  exact_mod_cast Iff.rfl

end

/-- The experts' rows, put together and transposed. -/
theorem pay1_val (v0 v1 v2 v3 v4 v5 v6 v7 v8 v9 : FVec Ideal S1x256 .f32) (s : Fin 256) (e : Fin 8) :
    k0_pay1 v0 v1 v2 v3 v4 v5 v6 v7 v8 v9 (ix3 (0 : Fin 1) s e)
      = (![v0, v1, v2, v3, v4, v5, v6, addf (mulf v7 v9) v8] : Fin 8 → FVec Ideal S1x256 .f32) e (ix2 (0 : Fin 1) s) := by
  fin_cases e <;> pointwise [k0_pay1] <;> rfl

/-- The experts' rows, put together and transposed, the last two given apart. -/
theorem pay2_val (v0 v1 v2 v3 v4 v5 v6 v7 : FVec Ideal S1x256 .f32) (s : Fin 256) (e : Fin 8) :
    k0_pay2 v0 v1 v2 v3 v4 v5 v6 v7 (ix3 (0 : Fin 1) s e) = (![v0, v1, v2, v3, v4, v5, v6, v7] : Fin 8 → FVec Ideal S1x256 .f32) e (ix2 (0 : Fin 1) s) := by
  fin_cases e <;> pointwise [k0_pay2] <;> rfl

section
variable (A : FVec Ideal S768x8 .bf16) (B : FVec Ideal S768x8 .f32) (C C' : FVec Ideal S1x768 .bf16) (D : FVec Ideal S768x256 .f32)
  (G G' : FVec Ideal S8x768 .bf16) (W : FVec Ideal S8x768 .f32)

/-- The rows of the places within the view. -/
theorem rows5 (hB : B = k0_pay18 A) (hC : C = k0_pay22) (hD : D = k0_pay25) (s : Fin 256) (e : Fin 8) :
    (![k0_pay27 A, k0_pay31 A B C D, k0_pay35 A B C D, k0_pay42 C (k0_pay38 B D) (k0_pay39 A) k0_pay40, k0_pay46 A B C D,
        k0_pay50 C (k0_pay49 A B D), k0_pay54 A B C D, k0_pay59 A B C D] : Fin 8 → FVec Ideal S1x256 .f32) e (ix2 (0 : Fin 1) s)
      = ∑ i : Fin 768, C (ix2 (0 : Fin 1) i) * raw A B D i s e := by
  unfold raw
  fin_cases e
  · subst hB hC hD
    show k0_pay27 A (ix2 (0 : Fin 1) s) = _
    pointwise [k0_pay27, k0_pay26]
  · show k0_pay31 A B C D (ix2 (0 : Fin 1) s) = _
    pointwise [k0_pay31, k0_pay30]
  · show k0_pay35 A B C D (ix2 (0 : Fin 1) s) = _
    pointwise [k0_pay35, k0_pay34]
  · show k0_pay42 C (k0_pay38 B D) (k0_pay39 A) k0_pay40 (ix2 (0 : Fin 1) s) = _
    pointwise [k0_pay42, k0_pay41, k0_pay38, k0_pay39, k0_pay40]
  · show k0_pay46 A B C D (ix2 (0 : Fin 1) s) = _
    pointwise [k0_pay46, k0_pay45]
  · show k0_pay50 C (k0_pay49 A B D) (ix2 (0 : Fin 1) s) = _
    pointwise [k0_pay50, k0_pay49]
  · show k0_pay54 A B C D (ix2 (0 : Fin 1) s) = _
    pointwise [k0_pay54, k0_pay53]
  · show k0_pay59 A B C D (ix2 (0 : Fin 1) s) = _
    pointwise [k0_pay59, k0_pay57]

/-- The rows of the tokens' numbers. -/
theorem rows4 (hB : B = k0_pay18 A) (hC : C = k0_pay22) (hC' : C' = k0_pay21) (hD : D = k0_pay25) (s : Fin 256) (e : Fin 8) :
    (![k0_pay28 A, k0_pay32 A B C' C D, k0_pay36 A B C' C D, k0_pay43 C' C (k0_pay38 B D) (k0_pay39 A) k0_pay40, k0_pay47 A B C' C D,
        k0_pay51 C' C (k0_pay49 A B D), k0_pay55 A B C' C D, addf (mulf (k0_pay58 A B C' D) k0_pay60) (k0_pay59 A B C D)]
          : Fin 8 → FVec Ideal S1x256 .f32) e (ix2 (0 : Fin 1) s)
      = (∑ i : Fin 768, C' (ix2 (0 : Fin 1) i) * raw A B D i s e) * Ideal.ofBits .f32 0x43800000#32
        + ∑ i : Fin 768, C (ix2 (0 : Fin 1) i) * raw A B D i s e := by
  unfold raw
  fin_cases e
  · subst hB hC hC' hD
    show k0_pay28 A (ix2 (0 : Fin 1) s) = _
    pointwise [k0_pay28, k0_pay27, k0_pay26]
  · show k0_pay32 A B C' C D (ix2 (0 : Fin 1) s) = _
    pointwise [k0_pay32, k0_pay31, k0_pay30]
  · show k0_pay36 A B C' C D (ix2 (0 : Fin 1) s) = _
    pointwise [k0_pay36, k0_pay35, k0_pay34]
  · show k0_pay43 C' C (k0_pay38 B D) (k0_pay39 A) k0_pay40 (ix2 (0 : Fin 1) s) = _
    pointwise [k0_pay43, k0_pay42, k0_pay41, k0_pay38, k0_pay39, k0_pay40]
  · show k0_pay47 A B C' C D (ix2 (0 : Fin 1) s) = _
    pointwise [k0_pay47, k0_pay46, k0_pay45]
  · show k0_pay51 C' C (k0_pay49 A B D) (ix2 (0 : Fin 1) s) = _
    pointwise [k0_pay51, k0_pay50, k0_pay49]
  · show k0_pay55 A B C' C D (ix2 (0 : Fin 1) s) = _
    pointwise [k0_pay55, k0_pay54, k0_pay53]
  · show addf (mulf (k0_pay58 A B C' D) k0_pay60) (k0_pay59 A B C D) (ix2 (0 : Fin 1) s) = _
    pointwise [k0_pay58, k0_pay59, k0_pay60, k0_pay57]

/-- The rows of the weights. -/
theorem rows6 (hB : B = k0_pay18 A) (hD : D = k0_pay25) (hG : G = k0_pay23 W) (hG' : G' = k0_pay24 W) (s : Fin 256) (e : Fin 8) :
    k0_pay3 G G' (k0_pay29 W A) (k0_pay33 A B G G' D) (k0_pay37 A B G G' D) (k0_pay44 G G' (k0_pay38 B D) (k0_pay39 A) k0_pay40)
        (k0_pay48 A B G G' D) (k0_pay52 G G' (k0_pay49 A B D)) (k0_pay56 A B G G' D) (k0_pay57 A B D) (ix3 (0 : Fin 1) s e)
      = ∑ i : Fin 768, G (ix2 e i) * raw A B D i s e + ∑ i : Fin 768, G' (ix2 e i) * raw A B D i s e := by
  unfold raw
  fin_cases e
  · subst hB hD hG hG'
    pointwise [k0_pay3, k0_pay29, k0_pay26]
  · pointwise [k0_pay3, k0_pay33, k0_pay30]
  · pointwise [k0_pay3, k0_pay37, k0_pay34]
  · pointwise [k0_pay3, k0_pay44, k0_pay41, k0_pay38, k0_pay39, k0_pay40]
  · pointwise [k0_pay3, k0_pay48, k0_pay45]
  · pointwise [k0_pay3, k0_pay52, k0_pay49]
  · pointwise [k0_pay3, k0_pay56, k0_pay53]
  · pointwise [k0_pay3, k0_pay57]

end

section
variable (x : Vec Ideal S768x768 .f32) (k : Vec Ideal S8x768 .f32) (r : Vec Ideal S24x768 .f32)
variable (hl : ∀ i, Finite (score x k r i))
include hl

/-- The tokens' places within their view, slot by slot. -/
theorem out0_5_val (s : Fin 256) (e : Fin 8) :
    out0_5 x k r (ix3 (0 : Fin 1) s e) = ∑ i : Fin 768, N (i.val % 256) * ind (chosen x k r e) i s.val := by
  have h : out0_5 x k r (ix3 (0 : Fin 1) s e) = ∑ i : Fin 768, k0_pay75 x k r (ix2 (0 : Fin 1) i) * raw (k0_pay72 x k r) (k0_pay73 x k r) (k0_pay78 x k r) i s e := by
    unfold out0_5
    rw [View.canon_unit_zero (by funext a; fin_cases a <;> rfl), pay2_val]
    exact rows5 _ _ _ _ rfl rfl rfl s e
  rw [h]
  exact Finset.sum_congr rfl fun i _ => by rw [pay75_val, raw_val x k r hl]

/-- The tokens' numbers, slot by slot. -/
theorem out0_4_val (s : Fin 256) (e : Fin 8) :
    out0_4 x k r (ix3 (0 : Fin 1) s e) = (∑ i : Fin 768, N (i.val / 256) * ind (chosen x k r e) i s.val) * ((256 : ℝ) : EReal)
      + ∑ i : Fin 768, N (i.val % 256) * ind (chosen x k r e) i s.val := by
  have h : out0_4 x k r (ix3 (0 : Fin 1) s e)
      = (∑ i : Fin 768, k0_pay74 x k r (ix2 (0 : Fin 1) i) * raw (k0_pay72 x k r) (k0_pay73 x k r) (k0_pay78 x k r) i s e) * Ideal.ofBits .f32 0x43800000#32
        + ∑ i : Fin 768, k0_pay75 x k r (ix2 (0 : Fin 1) i) * raw (k0_pay72 x k r) (k0_pay73 x k r) (k0_pay78 x k r) i s e := by
    unfold out0_4
    rw [View.canon_unit_zero (by funext a; fin_cases a <;> rfl), pay1_val]
    exact rows4 _ _ _ _ _ rfl rfl rfl rfl s e
  rw [h, c256_f32]
  simp only [pay75_val, pay74_val, raw_val x k r hl]

/-- The weights, slot by slot. -/
theorem out0_6_val (s : Fin 256) (e : Fin 8) :
    out0_6 x k r (ix3 (0 : Fin 1) s e) = ∑ i : Fin 768, wt x k r i e * ind (chosen x k r e) i s.val
      + ∑ i : Fin 768, (wt x k r i e - wt x k r i e) * ind (chosen x k r e) i s.val := by
  have h : out0_6 x k r (ix3 (0 : Fin 1) s e)
      = ∑ i : Fin 768, k0_pay76 x k r (ix2 e i) * raw (k0_pay72 x k r) (k0_pay73 x k r) (k0_pay78 x k r) i s e
        + ∑ i : Fin 768, k0_pay77 x k r (ix2 e i) * raw (k0_pay72 x k r) (k0_pay73 x k r) (k0_pay78 x k r) i s e := by
    unfold out0_6
    rw [View.canon_unit_zero (by funext a; fin_cases a <;> rfl)]
    exact rows6 _ _ _ _ _ _ rfl rfl rfl rfl s e
  have h6 : ∀ i, k0_pay76 x k r (ix2 e i) = wt x k r i e := fun i => (pay71_val x k r hl i e)
  have h7 : ∀ i, k0_pay77 x k r (ix2 e i) = wt x k r i e - wt x k r i e := fun i => by
    rw [← pay71_val x k r hl i e]
    unfold k0_pay77
    pointwise [k0_pay24, k0_pay23]
  rw [h]
  simp only [h6, h7, raw_val x k r hl]

/-- A slot that holds token `i` carries its number, its place and its weight. -/
theorem slot_full {i : Fin 768} {s : Fin 256} {e : Fin 8} (h : At (chosen x k r e) i s.val) :
    out0_4 x k r (ix3 (0 : Fin 1) s e) = N i.val ∧ out0_5 x k r (ix3 (0 : Fin 1) s e) = N (i.val % 256)
      ∧ out0_6 x k r (ix3 (0 : Fin 1) s e) = wt x k r i e := by
  rw [out0_4_val x k r hl, out0_5_val x k r hl, out0_6_val x k r hl]
  simp only [sum_ind_at h]
  refine ⟨?_, trivial, ?_⟩
  · unfold N
    rw [← EReal.coe_mul, ← EReal.coe_add]
    congr 1
    exact_mod_cast (by omega : i.val / 256 * 256 + i.val % 256 = i.val)
  · obtain ⟨w, hw, -⟩ := gate_real (hl i) (topA x k r i) (topB x k r i) e
    rw [wt, hw, ← EReal.coe_sub, sub_self, EReal.coe_zero, add_zero]

/-- A slot that holds no token has weight zero. -/
theorem slot_empty {s : Fin 256} {e : Fin 8} (h : ¬∃ i, At (chosen x k r e) i s.val) : out0_6 x k r (ix3 (0 : Fin 1) s e) = 0 := by
  rw [out0_6_val x k r hl, sum_ind_empty h fun i => wt x k r i e, sum_ind_empty h fun i => wt x k r i e - wt x k r i e, add_zero]

end

end Cert.KernelIdeal.Hand
-- ==== Proof.Value.Ffn.lean ====
module

public import proofs.«01_k».proof.Proof.Value.Router

@[expose] public section

set_option maxRecDepth 16384

noncomputable section

namespace Cert.KernelIdeal.Hand

open Cert.KernelIdeal Cert.KernelIdeal.Gen Cert.Spec
open Idealize.ShloMosaic

/-! ## One block of an expert on one token -/

/-- The activation as the second launch spells it. -/
def act (h : EReal) : EReal :=
  h * (Ideal.ofBits FTy.f32 0x3F000000#32 + Ideal.ofBits FTy.f32 0x3F000000#32 * Ideal.erf (h * Ideal.ofBits FTy.f32 0x3F3504F3#32))

/-- Half an expert's hidden layer applied to a token's row. -/
def half (row : Fin 768 → EReal) (w1 : Vec Ideal S1x768x1536 .f32) (w2 : Vec Ideal S1x1536x768 .f32) (d : Fin 768) : EReal :=
  ∑ f : Fin 1536, act (∑ j : Fin 768, row j * w1 (ix3 (0 : Fin 1) j f)) * w2 (ix3 (0 : Fin 1) f d)

/-- Token `n` of view `v`, among all the tokens. -/
def tok (v : Fin 3) (n : Fin 256) : Fin 768 := ⟨v.val * 256 + n.val, by omega⟩

/-- What one point adds: over the views, the token's weight times the half layer on its row. -/
def contrib (X : Vec Ideal S768x768 .bf16) (w : Fin 768 → EReal) (w1 : Vec Ideal S1x768x1536 .f32) (w2 : Vec Ideal S1x1536x768 .f32)
    (n : Fin 256) (d : Fin 768) : EReal :=
  ∑ v : Fin 3, w (tok v n) * half (fun j => X (ix2 (tok v n) j)) w1 w2 d

/-- The dense branch adds the contribution. -/
theorem pay6_val (X : Vec Ideal S768x768 .bf16) (w1 : Vec Ideal S1x768x1536 .f32) (w2 : Vec Ideal S1x1536x768 .f32) (w : Vec Ideal S1x1x768 .f32)
    (p : Vec Ideal S256x768 .f32) (n : Fin 256) (d : Fin 768) :
    k1_pay6 X w1 w2 w p (ix2 n d) = p (ix2 n d) + contrib X (fun i => w (ix3 (0 : Fin 1) (0 : Fin 1) i)) w1 w2 n d := by
  unfold contrib half act tok
  pointwise [k1_pay6]
  rfl

/-- A sum over the tokens of one place is the sum over the views. -/
theorem sum_place (n : Fin 256) (f : Fin 768 → EReal) :
    ∑ i : Fin 768, (if i.val % 256 = n.val then f i else 0) = ∑ v : Fin 3, f (tok v n) := by
  rw [← Finset.sum_filter]
  symm
  refine Finset.sum_bij (fun v _ => tok v n) ?_ ?_ ?_ ?_
  · intro v _; simp only [Finset.mem_filter, Finset.mem_univ, true_and, tok]; omega
  · intro v _ v' _ h
    have := congrArg Fin.val h
    simp only [tok] at this
    exact Fin.ext (by omega)
  · intro i hi
    simp only [Finset.mem_filter, Finset.mem_univ, true_and] at hi
    exact ⟨⟨i.val / 256, by omega⟩, Finset.mem_univ _, Fin.ext (by simp only [tok]; omega)⟩
  · intro v _; rfl

/-- The slot branch adds the contribution, when the slots hold all the expert's tokens. -/
theorem pay5_val (X : Vec Ideal S768x768 .bf16) (w1 : Vec Ideal S1x768x1536 .f32) (w2 : Vec Ideal S1x1536x768 .f32)
    (x3 x4 x5 : Vec Ideal S1x256x1 .f32) (P : Vec Ideal S256x768 .f32) (n : Fin 256) (d : Fin 768)
    (p : Fin 768 → Prop) [DecidablePred p] (w : Fin 768 → EReal) (hc : (Finset.univ.filter p).card ≤ 256) (hw : ∀ i, ¬p i → w i = 0)
    (h1 : ∀ (i : Fin 768) (s : Fin 256), At p i s.val → x3 (ix3 (0 : Fin 1) s (0 : Fin 1)) = N i.val
      ∧ x4 (ix3 (0 : Fin 1) s (0 : Fin 1)) = N (i.val % 256) ∧ x5 (ix3 (0 : Fin 1) s (0 : Fin 1)) = w i)
    (h0 : ∀ s : Fin 256, (¬∃ i, At p i s.val) → x5 (ix3 (0 : Fin 1) s (0 : Fin 1)) = 0) :
    k1_pay5 (k1_pay3 x3 X) w1 w2 P (k1_pay4 x5 x4) (ix2 n d) = P (ix2 n d) + contrib X w w1 w2 n d := by
  have h3 : ∀ (s : Fin 256) (j : Fin 768), k1_pay3 x3 X (ix2 s j)
      = ∑ i : Fin 768, (if x3 (ix3 (0 : Fin 1) s (0 : Fin 1)) = N i.val then (1 : EReal) else 0) * X (ix2 i j) := fun s j => by
    pointwise [k1_pay3]
    refine Finset.sum_congr rfl fun i _ => ?_
    rw [sitofp_bit, sitofp_ofNat _ (by omega)]
    simp
  have h4 : ∀ (s n : Fin 256), k1_pay4 x5 x4 (ix2 s n)
      = (if x4 (ix3 (0 : Fin 1) s (0 : Fin 1)) = N n.val then (1 : EReal) else 0) * x5 (ix3 (0 : Fin 1) s (0 : Fin 1)) := fun s n => by
    pointwise [k1_pay4]
    rw [sitofp_bit, sitofp_ofNat _ (by omega)]
    simp
  have h5 : k1_pay5 (k1_pay3 x3 X) w1 w2 P (k1_pay4 x5 x4) (ix2 n d)
      = P (ix2 n d) + ∑ s : Fin 256, k1_pay4 x5 x4 (ix2 s n) * half (fun j => k1_pay3 x3 X (ix2 s j)) w1 w2 d := by
    unfold half act
    generalize k1_pay3 x3 X = A
    generalize k1_pay4 x5 x4 = B
    pointwise [k1_pay5]
    rfl
  rw [h5]
  congr 1
  rw [sum_slots hc _ (fun i => (if i.val % 256 = n.val then (1 : EReal) else 0) * w i * half (fun j => X (ix2 i j)) w1 w2 d)]
  · unfold contrib
    rw [← sum_place n fun i => w i * half (fun j => X (ix2 i j)) w1 w2 d]
    refine Finset.sum_congr rfl fun i _ => ?_
    by_cases hp : p i
    · rw [if_pos hp]; split <;> simp
    · rw [if_neg hp, hw i hp]; split <;> simp
  · intro s i hi
    obtain ⟨e3, e4, e5⟩ := h1 i s hi
    rw [h4, e4, e5]
    have hrow : (fun j => k1_pay3 x3 X (ix2 s j)) = fun j => X (ix2 i j) := by
      funext j
      rw [h3, e3, Finset.sum_eq_single i]
      · rw [if_pos rfl, one_mul]
      · intro i' _ hi'
        rw [if_neg fun h => hi' (Fin.ext (N_inj.mp h)).symm, zero_mul]
      · exact fun h => absurd (Finset.mem_univ _) h
    rw [hrow]
    simp only [N_inj]
  · intro s hs
    rw [h4, h0 s hs, mul_zero, zero_mul]

/-! ## The fold over the points -/

/-- A half is below one. -/
theorem half_lt_one : Ideal.ofBits FTy.f32 0x3F000000#32 < (1 : EReal) := by
  rw [half_f32]; exact_mod_cast (by norm_num : (1 / 2 : ℝ) < 1)

/-- A half is above zero. -/
theorem zero_lt_half : (0 : EReal) < Ideal.ofBits FTy.f32 0x3F000000#32 := by
  rw [half_f32]; exact_mod_cast (by norm_num : (0 : ℝ) < 1 / 2)

/-- The overflow bit compares the flag with one half. -/
theorem ovBit_val (x6 : Vec Ideal S1x1x128 .f32) :
    ovBit x6 = BitVec.ofBool (decide (Ideal.ofBits FTy.f32 0x3F000000#32 < x6 (ix3 (0 : Fin 1) (0 : Fin 1) (0 : Fin 128)))) := by
  unfold ovBit
  have h : k1_pay2 (View.ld x6 rOvf) = x6 (ix3 (0 : Fin 1) (0 : Fin 1) (0 : Fin 128)) := by
    pointwise [k1_pay2]
  rw [h]
  rfl

/-- One point's contribution, whichever branch it takes, from what the first launch returned for its expert. -/
theorem step_val (x : Vec Ideal S768x768 .f32) (k : Vec Ideal S8x768 .f32) (r : Vec Ideal S24x768 .f32)
    (hl : ∀ i, Finite (score x k r i)) (e : Fin 8)
    (X : Vec Ideal S768x768 .bf16) (w1 : Vec Ideal S1x768x1536 .f32) (w2 : Vec Ideal S1x1536x768 .f32)
    (x3 x4 x5 : Vec Ideal S1x256x1 .f32) (x6 : Vec Ideal S1x1x128 .f32) (x7 : Vec Ideal S1x1x768 .f32) (P : Vec Ideal S256x768 .f32)
    (h3 : ∀ s : Fin 256, x3 (ix3 (0 : Fin 1) s (0 : Fin 1)) = out0_4 x k r (ix3 (0 : Fin 1) s e))
    (h4 : ∀ s : Fin 256, x4 (ix3 (0 : Fin 1) s (0 : Fin 1)) = out0_5 x k r (ix3 (0 : Fin 1) s e))
    (h5 : ∀ s : Fin 256, x5 (ix3 (0 : Fin 1) s (0 : Fin 1)) = out0_6 x k r (ix3 (0 : Fin 1) s e))
    (h6 : x6 (ix3 (0 : Fin 1) (0 : Fin 1) (0 : Fin 128)) = out0_7 x k r (ix3 e (0 : Fin 1) (0 : Fin 128)))
    (h7 : ∀ i : Fin 768, x7 (ix3 (0 : Fin 1) (0 : Fin 1) i) = out0_3 x k r (ix3 e (0 : Fin 1) i))
    (n : Fin 256) (d : Fin 768) :
    (if ovBit x6 = 1#1 then k1_pay6 X w1 w2 x7 P else k1_pay5 (k1_pay3 x3 X) w1 w2 P (k1_pay4 x5 x4)) (ix2 n d)
      = P (ix2 n d) + contrib X (fun i => wt x k r i e) w1 w2 n d := by
  rw [ovBit_val, h6, out0_7_val x k r hl]
  by_cases hc : 256 < (Finset.univ.filter (chosen x k r e)).card
  · rw [if_pos hc, decide_eq_true half_lt_one, if_pos (by decide), pay6_val]
    simp only [h7, out0_3_val x k r hl]
  · rw [if_neg hc, decide_eq_false (not_lt.mpr zero_lt_half.le), if_neg (by decide)]
    refine pay5_val X w1 w2 x3 x4 x5 P n d (chosen x k r e) _ (not_lt.mp hc) ?_ ?_ ?_
    · intro i hi
      obtain ⟨w, hw, h0, -⟩ := gate_real (hl i) (topA x k r i) (topB x k r i) e
      refine le_antisymm (not_lt.mp hi) ?_
      rw [wt, hw]
      exact_mod_cast h0
    · intro i s hs
      rw [h3, h4, h5]
      exact slot_full x k r hl hs
    · intro s hs
      rw [h5]
      exact slot_empty x k r hl hs

end Cert.KernelIdeal.Hand
-- ==== Proof.Value.Points.lean ====
module

public import proofs.«01_k».proof.Proof.Value.Ffn

@[expose] public section

set_option maxRecDepth 16384

noncomputable section

namespace Cert.KernelIdeal.Hand

open Cert.KernelIdeal Cert.KernelIdeal.Gen Cert.Spec
open Idealize.ShloMosaic Idealize.ShloMosaic.TcCoe

variable (V : (c : Dev nD) → (b : Ref sig .tc) → Buf (Elt Ideal) ((c : Thread nD τ).loc b))

/-- Hidden place `f` of block `b`, among all the hidden places. -/
def hid (b : Fin 2) (f : Fin 1536) : Fin 3072 := ⟨b.val * 1536 + f.val, by omega⟩

/-- Block `b` of expert `e`'s hidden layer applied to a token's row. -/
def halfAt (W1 : Vec Ideal S8x768x3072 .f32) (W2 : Vec Ideal S8x3072x768 .f32) (e : Fin 8) (b : Fin 2) (row : Fin 768 → EReal) (d : Fin 768) : EReal :=
  ∑ f : Fin 1536, act (∑ j : Fin 768, row j * W1 (ix3 e j (hid b f))) * W2 (ix3 e (hid b f) d)

/-- What block `b` of expert `e` adds to the output. -/
def part (X : Vec Ideal S768x768 .bf16) (W1 : Vec Ideal S8x768x3072 .f32) (W2 : Vec Ideal S8x3072x768 .f32) (w : Fin 768 → Fin 8 → EReal)
    (n : Fin 256) (d : Fin 768) (e : Fin 8) (b : Fin 2) : EReal :=
  ∑ v : Fin 3, w (tok v n) e * halfAt W1 W2 e b (fun j => X (ix2 (tok v n) j)) d

/-- A fold of additions from zero is the sum of what is added. -/
theorem outsAt1_sum (c : Dev nD) (n : Fin 256) (d : Fin 768) (G : ℕ → EReal)
    (h : ∀ (t : Fin cfg1.N) (P : Vec Ideal S256x768 .f32), step1 V c t P (ix2 n d) = P (ix2 n d) + G t.val) :
    ∀ (m : ℕ) (hm : m < cfg1.N), outsAt1 V c m hm (ix2 n d) = ∑ k ∈ Finset.range (m + 1), G k
  | 0, hm => by
    rw [outsAt1, h, Finset.sum_range_one]
    have : k1_pay1 (F := Ideal) (ix2 n d) = 0 := by
      pointwise [k1_pay1]
    rw [this, zero_add]
  | m + 1, hm => by
    rw [outsAt1, h, outsAt1_sum c n d G h m, Finset.sum_range_succ _ (m + 1)]

/-- The sum over the sixteen points is the sum over the experts and their two blocks. -/
theorem sum_points (f : Fin 8 → Fin 2 → EReal) :
    ∑ k ∈ Finset.range 16, f ⟨k / 2 % 8, Nat.mod_lt _ (by decide)⟩ ⟨k % 2, Nat.mod_lt _ (by decide)⟩ = ∑ e : Fin 8, ∑ b : Fin 2, f e b := by
  simp only [Finset.sum_range_succ, Finset.sum_range_zero, Fin.sum_univ_succ, Finset.univ_eq_empty, Finset.sum_empty, zero_add, add_zero, Fin.succ_zero_eq_one]
  simp only [add_assoc]
  rfl

variable (x : Vec Ideal S768x768 .f32) (k : Vec Ideal S8x768 .f32) (r : Vec Ideal S24x768 .f32)
variable (hl : ∀ i, Finite (score x k r i))

include hl in
/-- The second launch's output, from what it finds in its arrays. -/
theorem outs_val (c : Dev nD)
    (X : Vec Ideal S768x768 .bf16) (W1 : Vec Ideal S8x768x3072 .f32) (W2 : Vec Ideal S8x3072x768 .f32)
    (hX : (V c main_v12 : Vec Ideal S768x768 .bf16) = X) (hW1 : (V c main_arg3 : Vec Ideal S8x768x3072 .f32) = W1)
    (hW2 : (V c main_arg5 : Vec Ideal S8x3072x768 .f32) = W2)
    (h3 : ∀ (s : Fin 256) (e : Fin 8), (V c main_v5 : Vec Ideal S8x256x1 .f32) (ix3 e s (0 : Fin 1)) = out0_4 x k r (ix3 (0 : Fin 1) s e))
    (h4 : ∀ (s : Fin 256) (e : Fin 8), (V c main_v8 : Vec Ideal S8x256x1 .f32) (ix3 e s (0 : Fin 1)) = out0_5 x k r (ix3 (0 : Fin 1) s e))
    (h5 : ∀ (s : Fin 256) (e : Fin 8), (V c main_v11 : Vec Ideal S8x256x1 .f32) (ix3 e s (0 : Fin 1)) = out0_6 x k r (ix3 (0 : Fin 1) s e))
    (h6 : (V c main_v2_4 : Vec Ideal S8x1x128 .f32) = out0_7 x k r) (h7 : (V c main_v2_0 : Vec Ideal S8x1x768 .f32) = out0_3 x k r)
    (n : Fin 256) (d : Fin 768) (hm : 15 < cfg1.N) :
    outsAt1 V c 15 hm (ix2 n d) = ∑ e : Fin 8, ∑ b : Fin 2, part X W1 W2 (wt x k r) n d e b := by
  rw [outsAt1_sum V c n d (fun q => part X W1 W2 (wt x k r) n d ⟨q / 2 % 8, Nat.mod_lt _ (by decide)⟩ ⟨q % 2, Nat.mod_lt _ (by decide)⟩)]
  · exact sum_points fun e b => part X W1 W2 (wt x k r) n d e b
  intro t P
  have hN := half_lt t
  have he : (⟨t.val / 2 % 8, Nat.mod_lt _ (by decide)⟩ : Fin 8) = ⟨t.val / 2, hN⟩ := Fin.ext (Nat.mod_eq_of_lt hN)
  have e0 : (iblk1 V c 0 t : Vec Ideal S768x768 .bf16) = X := by
    rw [← hX]; funext y; exact iblk1_at0 V c t y
  have e1 : ∀ j f, (iblk1 V c 1 t : Vec Ideal S1x768x1536 .f32) (ix3 (0 : Fin 1) j f)
      = W1 (ix3 (⟨t.val / 2, hN⟩ : Fin 8) j (hid ⟨t.val % 2, Nat.mod_lt _ (by decide)⟩ f)) := fun j f => by
    rw [← hW1]; exact iblk1_at1 V c t _
  have e2 : ∀ f d, (iblk1 V c 2 t : Vec Ideal S1x1536x768 .f32) (ix3 (0 : Fin 1) f d)
      = W2 (ix3 (⟨t.val / 2, hN⟩ : Fin 8) (hid ⟨t.val % 2, Nat.mod_lt _ (by decide)⟩ f) d) := fun f d => by
    rw [← hW2]; exact iblk1_at2 V c t _
  have e3 : ∀ s, (iblk1 V c 3 t : Vec Ideal S1x256x1 .f32) (ix3 (0 : Fin 1) s (0 : Fin 1))
      = out0_4 x k r (ix3 (0 : Fin 1) s (⟨t.val / 2, hN⟩ : Fin 8)) := fun s => by
    rw [← h3]; exact iblk1_at3 V c t _
  have e4 : ∀ s, (iblk1 V c 4 t : Vec Ideal S1x256x1 .f32) (ix3 (0 : Fin 1) s (0 : Fin 1))
      = out0_5 x k r (ix3 (0 : Fin 1) s (⟨t.val / 2, hN⟩ : Fin 8)) := fun s => by
    rw [← h4]; exact iblk1_at4 V c t _
  have e5 : ∀ s, (iblk1 V c 5 t : Vec Ideal S1x256x1 .f32) (ix3 (0 : Fin 1) s (0 : Fin 1))
      = out0_6 x k r (ix3 (0 : Fin 1) s (⟨t.val / 2, hN⟩ : Fin 8)) := fun s => by
    rw [← h5]; exact iblk1_at5 V c t _
  have e6 : (iblk1 V c 6 t : Vec Ideal S1x1x128 .f32) (ix3 (0 : Fin 1) (0 : Fin 1) (0 : Fin 128))
      = out0_7 x k r (ix3 (⟨t.val / 2, hN⟩ : Fin 8) (0 : Fin 1) (0 : Fin 128)) := by
    rw [← h6]; exact iblk1_at6 V c t _
  have e7 : ∀ i, (iblk1 V c 7 t : Vec Ideal S1x1x768 .f32) (ix3 (0 : Fin 1) (0 : Fin 1) i)
      = out0_3 x k r (ix3 (⟨t.val / 2, hN⟩ : Fin 8) (0 : Fin 1) i) := fun i => by
    rw [← h7]; exact iblk1_at7 V c t _
  unfold step1 scr0 scr1
  refine (step_val x k r hl ⟨t.val / 2, hN⟩ (iblk1 V c 0 t) (iblk1 V c 1 t) (iblk1 V c 2 t) (iblk1 V c 3 t) (iblk1 V c 4 t) (iblk1 V c 5 t)
    (iblk1 V c 6 t) (iblk1 V c 7 t) P e3 e4 e5 e6 e7 n d).trans ?_
  refine congrArg (P (ix2 n d) + ·) ?_
  rw [e0]
  clear e0 e3 e4 e5 e6 e7
  generalize (iblk1 V c 1 t : Vec Ideal S1x768x1536 .f32) = w1 at e1 ⊢
  generalize (iblk1 V c 2 t : Vec Ideal S1x1536x768 .f32) = w2 at e2 ⊢
  simp only [contrib, part, half, halfAt, he, e1, e2]

end Cert.KernelIdeal.Hand
-- ==== Proof.Value.Mem.lean ====
module

public import proofs.«01_k».proof.Proof.Value.Points
public import proofs.«01_k».proof.Proof.Ideal.Run
public import Idealize.ShloMosaic.Lib.StableHlo.ReadAt

@[expose] public section

set_option maxRecDepth 16384

noncomputable section

namespace Cert.KernelIdeal.Hand

open Cert.KernelIdeal Cert.KernelIdeal.Gen Cert.Spec
open Idealize.ShloMosaic Idealize.ShloMosaic.TcCoe
open Idealize.ShloMosaic.Pipeline (Dat)

variable (m : (ℓ : Loc nD τ sig) → Buf (Elt Ideal) ℓ) (ρ : Dev nD → PrngReg) (c : Dev nD)

/-! ## What the first launch finds -/

/-- The tokens, all views in one array. -/
abbrev xs : Vec Ideal S768x768 .f32 := V1 m ρ c main_v0
/-- The expert keys. -/
abbrev ks : Vec Ideal S8x768 .f32 := V1 m ρ c main_arg1
/-- The router's weights, all views in one array. -/
abbrev rs : Vec Ideal S24x768 .f32 := V1 m ρ c main_v1

/-- A row of the tokens, as the first argument has it. -/
theorem xs_val (v : Fin 3) (n : Fin 256) (d : Fin 768) :
    xs m ρ c (ix2 (tok v n) d) = (m ((c : Thread nD τ).loc main_arg0) : Vec Ideal S3x256x768 .f32) (ix3 v n d) := by
  unfold xs V1 W1 tok
  after_reads_at

/-- A row of the router's weights, as the third argument has it. -/
theorem rs_val (v : Fin 3) (e : Fin 8) (d : Fin 768) :
    rs m ρ c (ix2 (⟨v.val * 8 + e.val, by omega⟩ : Fin 24) d) = (m ((c : Thread nD τ).loc main_arg2) : Vec Ideal S3x8x768 .f32) (ix3 v e d) := by
  unfold rs V1 W1
  after_reads_at

/-- The keys, as the second argument has them. -/
theorem ks_val : ks m ρ c = m ((c : Thread nD τ).loc main_arg1) := W1_args m ρ c main_arg1 (by decide)

/-! ## What it leaves -/

/-- The first launch has one point, and each of its windows' blocks is the whole array. -/
theorem idx0 : ∀ t : Fin cfg0.N, win0_0.index t = ![0, 0] ∧ win0_1.index t = ![0, 0] ∧ win0_2.index t = ![0, 0] := by decide +kernel

/-- The first block is all the tokens. -/
theorem iblk0_w0 (t : Fin cfg0.N) : (iblk0 (V1 m ρ) c 0 t : Vec Ideal S768x768 .f32) = xs m ρ c := by
  obtain ⟨h0, h1, h2⟩ := idx0 t; funext y; blk_ext [iblk0, h0, h1, h2]
/-- The second block is all the keys. -/
theorem iblk0_w1 (t : Fin cfg0.N) : (iblk0 (V1 m ρ) c 1 t : Vec Ideal S8x768 .f32) = ks m ρ c := by
  obtain ⟨h0, h1, h2⟩ := idx0 t; funext y; blk_ext [iblk0, h0, h1, h2]
/-- The third block is all the router's weights. -/
theorem iblk0_w2 (t : Fin cfg0.N) : (iblk0 (V1 m ρ) c 2 t : Vec Ideal S24x768 .f32) = rs m ρ c := by
  obtain ⟨h0, h1, h2⟩ := idx0 t; funext y; blk_ext [iblk0, h0, h1, h2]

/-- The weights the first launch leaves. -/
theorem arr0_3 : (W2 m ρ c main_v2_0 : Vec Ideal S8x1x768 .f32) = out0_3 (xs m ρ c) (ks m ρ c) (rs m ρ c) := by
  refine (W2_arr m ρ c 3).trans ?_
  refine (dat0 (V1 m ρ) c).arrAt_eq_of_after_last 3 t0_0 (by decide +kernel) _ fun j => ?_
  blk_simp
  rw [after0_3, iblk0_w0, iblk0_w1, iblk0_w2]
  blk_ext

/-- The tokens in the slots the first launch leaves. -/
theorem arr0_4 : (W2 m ρ c main_v2_1 : Vec Ideal S1x256x8 .f32) = out0_4 (xs m ρ c) (ks m ρ c) (rs m ρ c) := by
  refine (W2_arr m ρ c 4).trans ?_
  refine (dat0 (V1 m ρ) c).arrAt_eq_of_after_last 4 t0_0 (by decide +kernel) _ fun j => ?_
  blk_simp
  rw [after0_4, iblk0_w0, iblk0_w1, iblk0_w2]
  blk_ext

/-- The places in the slots the first launch leaves. -/
theorem arr0_5 : (W2 m ρ c main_v2_2 : Vec Ideal S1x256x8 .f32) = out0_5 (xs m ρ c) (ks m ρ c) (rs m ρ c) := by
  refine (W2_arr m ρ c 5).trans ?_
  refine (dat0 (V1 m ρ) c).arrAt_eq_of_after_last 5 t0_0 (by decide +kernel) _ fun j => ?_
  blk_simp
  rw [after0_5, iblk0_w0, iblk0_w1, iblk0_w2]
  blk_ext

/-- The weights in the slots the first launch leaves. -/
theorem arr0_6 : (W2 m ρ c main_v2_3 : Vec Ideal S1x256x8 .f32) = out0_6 (xs m ρ c) (ks m ρ c) (rs m ρ c) := by
  refine (W2_arr m ρ c 6).trans ?_
  refine (dat0 (V1 m ρ) c).arrAt_eq_of_after_last 6 t0_0 (by decide +kernel) _ fun j => ?_
  blk_simp
  rw [after0_6, iblk0_w0, iblk0_w1, iblk0_w2]
  blk_ext

/-- The overflow flags the first launch leaves. -/
theorem arr0_7 : (W2 m ρ c main_v2_4 : Vec Ideal S8x1x128 .f32) = out0_7 (xs m ρ c) (ks m ρ c) (rs m ρ c) := by
  refine (W2_arr m ρ c 7).trans ?_
  refine (dat0 (V1 m ρ) c).arrAt_eq_of_after_last 7 t0_0 (by decide +kernel) _ fun j => ?_
  blk_simp
  rw [after0_7, iblk0_w0, iblk0_w1, iblk0_w2]
  blk_ext

/-! ## What the second launch finds -/

/-- The second launch finds the tokens, rounded to a narrower format, which changes no extended real. -/
theorem v12_val (i d : Fin 768) : (V3 m ρ c main_v12 : Vec Ideal S768x768 .bf16) (ix2 i d) = xs m ρ c (ix2 i d) := by
  have h : (W2 m ρ c main_v0 : Vec Ideal S768x768 .f32) = xs m ρ c := W2_of m ρ c main_v0 (by decide)
  rw [← h]
  unfold V3 W3
  after_reads_at

/-- It finds the slots' token numbers, an expert at a time. -/
theorem v5_val (s : Fin 256) (e : Fin 8) :
    (V3 m ρ c main_v5 : Vec Ideal S8x256x1 .f32) (ix3 e s (0 : Fin 1)) = out0_4 (xs m ρ c) (ks m ρ c) (rs m ρ c) (ix3 (0 : Fin 1) s e) := by
  rw [← arr0_4]
  unfold V3 W3
  after_reads_at

/-- It finds the slots' places in a view, an expert at a time. -/
theorem v8_val (s : Fin 256) (e : Fin 8) :
    (V3 m ρ c main_v8 : Vec Ideal S8x256x1 .f32) (ix3 e s (0 : Fin 1)) = out0_5 (xs m ρ c) (ks m ρ c) (rs m ρ c) (ix3 (0 : Fin 1) s e) := by
  rw [← arr0_5]
  unfold V3 W3
  after_reads_at

/-- It finds the slots' gates, an expert at a time. -/
theorem v11_val (s : Fin 256) (e : Fin 8) :
    (V3 m ρ c main_v11 : Vec Ideal S8x256x1 .f32) (ix3 e s (0 : Fin 1)) = out0_6 (xs m ρ c) (ks m ρ c) (rs m ρ c) (ix3 (0 : Fin 1) s e) := by
  rw [← arr0_6]
  unfold V3 W3
  after_reads_at

/-- It finds the overflow marks as the first launch left them. -/
theorem v2_4_val : (V3 m ρ c main_v2_4 : Vec Ideal S8x1x128 .f32) = out0_7 (xs m ρ c) (ks m ρ c) (rs m ρ c) :=
  (W3_of m ρ c main_v2_4 (by decide)).trans (arr0_7 m ρ c)

/-- It finds the dense weights as the first launch left them. -/
theorem v2_0_val : (V3 m ρ c main_v2_0 : Vec Ideal S8x1x768 .f32) = out0_3 (xs m ρ c) (ks m ρ c) (rs m ρ c) :=
  (W3_of m ρ c main_v2_0 (by decide)).trans (arr0_3 m ρ c)

/-! ## What it leaves -/

/-- The result of the kernel, element by element. -/
theorem v13_val (hl : ∀ i, Finite (score (xs m ρ c) (ks m ρ c) (rs m ρ c) i)) (n : Fin 256) (d : Fin 768) :
    (W4 m ρ c main_v13 : Vec Ideal S256x768 .f32) (ix2 n d) = ∑ e : Fin 8, ∑ b : Fin 2,
      part (xs m ρ c) (m ((c : Thread nD τ).loc main_arg3)) (m ((c : Thread nD τ).loc main_arg5)) (wt (xs m ρ c) (ks m ρ c) (rs m ρ c)) n d e b := by
  have h : (W4 m ρ c main_v13 : Vec Ideal S256x768 .f32) = outsAt1 (V3 m ρ) c t1_15.val t1_15.isLt := by
    refine (W4_arr m ρ c 8).trans ?_
    refine (dat1 (V3 m ρ) c).arrAt_eq_of_after_last 8 t1_15 (by decide +kernel) _ fun j => ?_
    blk_simp
    rw [after1_8]
    blk_ext
  rw [h]
  refine outs_val (V3 m ρ) (xs m ρ c) (ks m ρ c) (rs m ρ c) hl c _ _ _ ?_ (W3_args m ρ c main_arg3 (by decide)) (W3_args m ρ c main_arg5 (by decide))
    (v5_val m ρ c) (v8_val m ρ c) (v11_val m ρ c) (v2_4_val m ρ c) (v2_0_val m ρ c) n d _
  funext y
  rw [← ix2_eta y]
  exact v12_val m ρ c _ _

end Cert.KernelIdeal.Hand
-- ==== Proof.Value.Ref.lean ====
module

public import proofs.«01_k».proof.Proof.Gen.ReferenceIdeal.Run
public import proofs.«01_k».proof.Proof.Value.Spec
public import Idealize.ShloMosaic.Lib.Pointwise
public import Idealize.ShloMosaic.Lib.IdealHost

@[expose] public section

set_option maxRecDepth 16384

noncomputable section

namespace Cert.ReferenceIdeal.Hand

open Cert.ReferenceIdeal Cert.ReferenceIdeal.Gen Cert.Spec
open Idealize.ShloMosaic

variable (A0 : FVec Ideal S3x256x768 .f32) (A1 : FVec Ideal S8x768 .f32) (A2 : FVec Ideal S3x8x768 .f32) (A3 : FVec Ideal S8x768x3072 .f32)
variable (A4 : FVec Ideal S8x3072 .f32) (A5 : FVec Ideal S8x3072x768 .f32) (A6 : FVec Ideal S8x768 .f32)

/-! ## The pieces of the reference's result -/

/-- The router's logits. -/
def logits : FVec Ideal S3x256x8 .f32 :=
  addf (Host.negf (maximumf (subf (addf (broadcastInDim S3x256x8 ![0, 1, 2] bcast_S3x256x1_S3x256x8_0_1_2 (broadcastInDim S3x256x1 ![0, 1] bcast_S3x256_S3x256x1_0_1 (Host.reduceAdd (mulf A0 A0) (constant S_ .f32 0x00000000#32) reducesTo_S3x256x768_S3x256_d2 h_S_))) (broadcastInDim S3x256x8 ![0, 1, 2] bcast_S1x1x8_S3x256x8_0_1_2 (broadcastInDim S1x1x8 ![2] bcast_S8_S1x1x8_2 (Host.reduceAdd (mulf A1 A1) (constant S_ .f32 0x00000000#32) reducesTo_S8x768_S8_d1 h_S_)))) (mulf (broadcastInDim S3x256x8 ![] bcast_S_S3x256x8 (constant S_ .f32 0x40000000#32)) (Host.dotGeneral dot_S3x256x768_S8x768_S3x256x8_2_1_01_0_n_n none A0 A1))) (broadcastInDim S3x256x8 ![] bcast_S_S3x256x8 (constant S_ .f32 0x00000000#32)))) (Host.dotGeneral dot_S3x256x768_S3x8x768_S3x256x8_2_2_1_1_0_0 none A0 A2)

/-- The two greatest logits of each token, with their places. -/
def tops (L : FVec Ideal S3x256x8 .f32) : FVec Ideal S3x256x2 .f32 × IVec S3x256x2 32 :=
  Host.topK S3x256x2 2 (FloatOps.cmpfTotal .gt) L sliceFits_S3x256x8_S3x256x2

/-- The two gates of each token. -/
def gates (P : FVec Ideal S3x256x2 .f32) : FVec Ideal S3x256x2 .f32 :=
  Host.exp (subf P (broadcastInDim S3x256x2 ![0, 1, 2] bcast_S3x256x1_S3x256x2_0_1_2 (addf (broadcastInDim S3x256x1 ![0, 1] bcast_S3x256_S3x256x1_0_1 (Host.reduce FloatOps.maximumf P (constant S_ .f32 0xFF800000#32) reducesTo_S3x256x2_S3x256_d2 h_S_)) (Host.log (broadcastInDim S3x256x1 ![0, 1] bcast_S3x256_S3x256x1_0_1 (Host.reduceAdd (Host.exp (subf P (broadcastInDim S3x256x2 ![0, 1, 2] bcast_S3x256x1_S3x256x2_0_1_2 (broadcastInDim S3x256x1 ![0, 1] bcast_S3x256_S3x256x1_0_1 (Host.reduce FloatOps.maximumf P (constant S_ .f32 0xFF800000#32) reducesTo_S3x256x2_S3x256_d2 h_S_))))) (constant S_ .f32 0x00000000#32) reducesTo_S3x256x2_S3x256_d2 h_S_))))))

/-- The gates spread over the experts. -/
def weights (I : IVec S3x256x2 32) (G : FVec Ideal S3x256x2 .f32) : FVec Ideal S3x256x8 .f32 :=
  Host.reduceAdd (mulf (uitofp .f32 (cmpi .eq (broadcastInDim S3x256x2x8 ![0, 1, 2, 3] bcast_S3x256x2x1_S3x256x2x8_0_1_2_3 (broadcastInDim S3x256x2x1 ![0, 1, 2] bcast_S3x256x2_S3x256x2x1_0_1_2 I)) (broadcastInDim S3x256x2x8 ![0, 1, 2, 3] bcast_S1x1x1x8_S3x256x2x8_0_1_2_3 (iotaInDim S1x1x1x8 32 3)))) (broadcastInDim S3x256x2x8 ![0, 1, 2, 3] bcast_S3x256x2x1_S3x256x2x8_0_1_2_3 (broadcastInDim S3x256x2x1 ![0, 1, 2] bcast_S3x256x2_S3x256x2x1_0_1_2 G))) (constant S_ .f32 0x00000000#32) reducesTo_S3x256x2x8_S3x256x8_d2 h_S_

/-- The hidden layer before its activation. -/
def hidden : FVec Ideal S3x8x256x3072 .f32 :=
  addf (transpose S3x8x256x3072 [2, 0, 3, 1] (Host.dotGeneral dot_S8x768x3072_S3x256x768_S8x3072x3x256_1_2_02_01_n_n none A3 A0) transposes_S8x3072x3x256_S3x8x256x3072_2_0_3_1) (broadcastInDim S3x8x256x3072 ![0, 1, 2, 3] bcast_S1x8x1x3072_S3x8x256x3072_0_1_2_3 (broadcastInDim S1x8x1x3072 ![1, 3] bcast_S8x3072_S1x8x1x3072_1_3 A4))

/-- The activation. -/
def gelu (H : FVec Ideal S3x8x256x3072 .f32) : FVec Ideal S3x8x256x3072 .f32 :=
  mulf (mulf (broadcastInDim S3x8x256x3072 ![] bcast_S_S3x8x256x3072 (constant S_ .f32 0x3F000000#32)) H) (Host.erfc (mulf (Host.negf H) (broadcastInDim S3x8x256x3072 ![] bcast_S_S3x8x256x3072 (constant S_ .f32 0x3F3504F3#32))))

/-- The weighted sum over views and experts. -/
def total (W : FVec Ideal S3x256x8 .f32) (Q : FVec Ideal S3x8x256x3072 .f32) : FVec Ideal S256x768 .f32 :=
  Host.reduceAdd (mulf (broadcastInDim S3x8x256x768 ![0, 1, 2, 3] bcast_S3x8x256x1_S3x8x256x768_0_1_2_3 (broadcastInDim S3x8x256x1 ![0, 1, 2] bcast_S3x8x256_S3x8x256x1_0_1_2 (transpose S3x8x256 [0, 2, 1] W transposes_S3x256x8_S3x8x256_0_2_1))) (addf (transpose S3x8x256x768 [2, 0, 3, 1] (Host.dotGeneral dot_S8x3072x768_S3x8x256x3072_S8x768x3x256_1_3_2_02_0_1 none A5 Q) transposes_S8x768x3x256_S3x8x256x768_2_0_3_1) (broadcastInDim S3x8x256x768 ![0, 1, 2, 3] bcast_S1x8x1x768_S3x8x256x768_0_1_2_3 (broadcastInDim S1x8x1x768 ![1, 3] bcast_S8x768_S1x8x1x768_1_3 A6)))) (constant S_ .f32 0x00000000#32) reducesTo_S3x8x256x768_S256x768_d0_1 h_S_

/-- The reference's result is made of these pieces. -/
theorem res_eq (m : (ℓ : Loc nD τ sig) → Buf (Elt Ideal) ℓ) (c : Dev nD) :
    Value.res_main_v56 m c = total (m ((c.tc : Thread nD τ).loc main_arg5)) (m ((c.tc : Thread nD τ).loc main_arg6))
      (weights (tops (logits (m ((c.tc : Thread nD τ).loc main_arg0)) (m ((c.tc : Thread nD τ).loc main_arg1)) (m ((c.tc : Thread nD τ).loc main_arg2)))).2
        (gates (tops (logits (m ((c.tc : Thread nD τ).loc main_arg0)) (m ((c.tc : Thread nD τ).loc main_arg1)) (m ((c.tc : Thread nD τ).loc main_arg2)))).1))
      (gelu (hidden (m ((c.tc : Thread nD τ).loc main_arg0)) (m ((c.tc : Thread nD τ).loc main_arg3)) (m ((c.tc : Thread nD τ).loc main_arg4)))) := by
  unfold Value.res_main_v56 total weights gates tops logits gelu hidden
  rfl

/-! ## The logits -/

/-- A logit, element by element. -/
def lg (v : Fin 3) (n : Fin 256) (e : Fin 8) : EReal :=
  0 - max (((∑ d : Fin 768, A0 (ix3 v n d) * A0 (ix3 v n d)) + ∑ d : Fin 768, A1 (ix2 e d) * A1 (ix2 e d))
      - Ideal.ofBits FTy.f32 1073741824#32 * ∑ d : Fin 768, A0 (ix3 v n d) * A1 (ix2 e d)) 0
    + ∑ d : Fin 768, A0 (ix3 v n d) * A2 (ix3 v e d)

/-- A logit of the reference. -/
theorem logits_at (v : Fin 3) (n : Fin 256) (e : Fin 8) : logits A0 A1 A2 (ix3 v n e) = lg A0 A1 A2 v n e := by
  unfold lg
  rw [zero_sub]
  pointwise [logits]

/-! ## The two greatest -/

/-- An index with its last coordinate replaced. -/
theorem along_last (v : Fin 3) (n : Fin 256) (x k : Fin 8) :
    Shape.Idx.along (s := S3x256x8) (ix3 v n x) (2 : Fin 3) k = ix3 v n k := by
  funext a
  fin_cases a <;> rfl

/-- A sort of rows of eight with their places, at an index. -/
theorem sort_at (L : FVec Ideal S3x256x8 .f32) (Y : IVec S3x256x8 32) (v : Fin 3) (n : Fin 256) (x : Fin 8) :
    (Host.sort2 S3x256x8 2 (fun l r => FloatOps.cmpfTotal .gt l.1 r.1) L Y).1 (ix3 v n x)
        = L (ix3 v n (sortedFrom (before fun e => L (ix3 v n e)) x))
      ∧ (Host.sort2 S3x256x8 2 (fun l r => FloatOps.cmpfTotal .gt l.1 r.1) L Y).2 (ix3 v n x)
        = Y (ix3 v n (sortedFrom (before fun e => L (ix3 v n e)) x)) := by
  unfold Host.sort2
  rw [dif_pos (by decide)]
  have hb : (fun k k' => FloatOps.cmpfTotal CmpDirection.gt (L (Shape.Idx.along (s := S3x256x8) (ix3 v n x) (2 : Fin 3) k))
      (L (Shape.Idx.along (s := S3x256x8) (ix3 v n x) (2 : Fin 3) k')) == 1#1) = before fun e => L (ix3 v n e) := by
    funext k k'
    exact congrArg₂ (fun p q : EReal => FloatOps.cmpfTotal (F := Ideal) (φ := .f32) CmpDirection.gt p q == 1#1)
      (congrArg L (along_last v n x k)) (congrArg L (along_last v n x k'))
  exact ⟨(congrArg L (along_last v n x _)).trans (congrArg (fun p => L (ix3 v n (sortedFrom p x))) hb),
    (congrArg Y (along_last v n x _)).trans (congrArg (fun p => Y (ix3 v n (sortedFrom p x))) hb)⟩

/-- The two greatest of a row, in order, with their places. -/
theorem tops_at (L : FVec Ideal S3x256x8 .f32) (v : Fin 3) (n : Fin 256) {a b : Fin 8} (h : Top2 (fun e => L (ix3 v n e)) a b) (i : Fin 2) :
    (tops L).1 (ix3 v n i) = L (ix3 v n (![a, b] i)) ∧ (tops L).2 (ix3 v n i) = BitVec.ofNat 32 (![a, b] i).val := by
  have hs := sortedFrom_top2 h i
  have hcut : ∀ {α : Type} (X : S3x256x8.Idx → α), extractStridedSlice S3x256x2 (fun _ => 0) X sliceFits_S3x256x8_S3x256x2 (ix3 v n i)
      = X (ix3 v n (i.castLE (by decide))) := fun X => by
    unfold extractStridedSlice
    congr 1
    funext a
    fin_cases a <;> exact Fin.ext (Nat.zero_add _)
  let Y : IVec S3x256x8 32 := fun i => if hd : 2 < S3x256x8.rank then iotaInDim S3x256x8 32 ⟨2, hd⟩ i else 0#32
  have e1 : (tops L).1 = extractStridedSlice S3x256x2 (fun _ => 0)
      (Host.sort2 S3x256x8 2 (fun l r => FloatOps.cmpfTotal .gt l.1 r.1) L Y).1 sliceFits_S3x256x8_S3x256x2 := rfl
  have e2 : (tops L).2 = extractStridedSlice S3x256x2 (fun _ => 0)
      (Host.sort2 S3x256x8 2 (fun l r => FloatOps.cmpfTotal .gt l.1 r.1) L Y).2 sliceFits_S3x256x8_S3x256x2 := rfl
  rw [e1, e2, hcut, hcut, (sort_at L Y v n _).1, (sort_at L Y v n _).2, hs]
  exact ⟨rfl, rfl⟩

/-! ## The gates -/

/-- The gate of one of two logits, over both. -/
def soft (z x y : EReal) : EReal := Ideal.exp (z - (x + Ideal.log (Ideal.exp (x - x) + Ideal.exp (y - x))))

/-- The softmax of two entries of which the first is the greater. -/
theorem gates_at (P : FVec Ideal S3x256x2 .f32) (v : Fin 3) (n : Fin 256) (i : Fin 2) (h : P (ix3 v n 1) ≤ P (ix3 v n 0)) :
    gates P (ix3 v n i) = soft (P (ix3 v n i)) (P (ix3 v n 0)) (P (ix3 v n 1)) := by
  have hb : Ideal.ofBits .f32 0xFF800000#32 = ⊥ := by simp [Ideal.ofBits, Ideal.ieee]
  have hm : Finset.fold max (Ideal.ofBits FTy.f32 4286578688#32) (fun x => P (ix3 v n x)) Finset.univ = P (ix3 v n 0) := by
    rw [hb, show (Finset.univ : Finset (Fin 2)) = {0, 1} from rfl, Finset.fold_insert (by decide), Finset.fold_singleton, max_bot_right, max_eq_left h]
  have hp : gates P (ix3 v n i) = Ideal.exp (P (ix3 v n i) - (Finset.fold max (Ideal.ofBits FTy.f32 4286578688#32) (fun x => P (ix3 v n x)) Finset.univ
      + Ideal.log (∑ x, Ideal.exp (P (ix3 v n x) - Finset.fold max (Ideal.ofBits FTy.f32 4286578688#32) (fun x => P (ix3 v n x)) Finset.univ)))) := by
    pointwise [gates]
  rw [hp, hm, Fin.sum_univ_two]
  rfl

/-- A bit as a number. -/
theorem uitofp_bit (c : Bool) : (FloatOps.uitofp .f32 (BitVec.ofBool c) : Ideal .f32) = if c then 1 else 0 := by
  show ((((BitVec.ofBool c).toNat : ℝ)) : EReal) = _
  cases c <;> simp

/-- The gates spread over the experts are the gates of the two chosen. -/
theorem weights_at (v : Fin 3) (n : Fin 256) (e : Fin 8) (hl : Finite (lg A0 A1 A2 v n)) {a b : Fin 8} (h : Top2 (lg A0 A1 A2 v n) a b) :
    weights (tops (logits A0 A1 A2)).2 (gates (tops (logits A0 A1 A2)).1) (ix3 v n e) = gate (lg A0 A1 A2 v n) a b e := by
  have h' : Top2 (fun e => logits A0 A1 A2 (ix3 v n e)) a b := by
    rw [show (fun e => logits A0 A1 A2 (ix3 v n e)) = lg A0 A1 A2 v n from funext fun e => logits_at A0 A1 A2 v n e]; exact h
  have t0 := tops_at _ v n h' 0
  have t1 := tops_at _ v n h' 1
  rw [logits_at] at t0 t1
  simp only [Matrix.cons_val_zero, Matrix.cons_val_one] at t0 t1
  generalize tops (logits A0 A1 A2) = T at t0 t1 ⊢
  obtain ⟨x, hx⟩ := hl a
  obtain ⟨y, hy⟩ := hl b
  have hle := h.le
  rw [hx, hy, EReal.coe_le_coe_iff] at hle
  have hP : T.1 (ix3 v n 1) ≤ T.1 (ix3 v n 0) := by rw [t0.1, t1.1]; exact h.le
  have hw : weights T.2 (gates T.1) (ix3 v n e) = ∑ i : Fin 2,
      (FloatOps.uitofp .f32 (IntOp.cmpi .eq (T.2 (ix3 v n i)) (BitVec.ofNat 32 e.val)) : Ideal .f32) * gates T.1 (ix3 v n i) := by
    generalize gates T.1 = G
    pointwise [weights]
  rw [hw, Fin.sum_univ_two, gates_at _ v n 0 hP, gates_at _ v n 1 hP, t0.1, t0.2, t1.1, t1.2, ofNat8_eq, ofNat8_eq, uitofp_bit, uitofp_bit, hx, hy]
  unfold soft gate
  rw [lse_first x y hle, lse_second x y hle, hx, hy]
  simp only [decide_eq_true_eq, ite_mul, one_mul, zero_mul, @eq_comm _ e]

/-! ## The experts -/

/-- A hidden unit before its activation. -/
theorem hidden_at (v : Fin 3) (e : Fin 8) (n : Fin 256) (f : Fin 3072) :
    hidden A0 A3 A4 (ix4 v e n f) = (∑ j : Fin 768, A3 (ix3 e j f) * A0 (ix3 v n j)) + A4 (ix2 e f) := by
  pointwise [hidden]

/-- The exact gelu of a hidden unit. -/
theorem gelu_at (H : FVec Ideal S3x8x256x3072 .f32) (v : Fin 3) (e : Fin 8) (n : Fin 256) (f : Fin 3072) :
    gelu H (ix4 v e n f) = Ideal.ofBits FTy.f32 0x3F000000#32 * H (ix4 v e n f) * Ideal.erfc (-H (ix4 v e n f) * Ideal.ofBits FTy.f32 0x3F3504F3#32) := by
  pointwise [gelu]

/-- The indices that a sum over the views and the experts takes together. -/
theorem fiber01 (h : S3x8x256x768.ReducesTo [0, 1] S256x768) (n : Fin 256) (d : Fin 768) (i : S3x8x256x768.Idx) :
    h.drop i = ix2 n d ↔ ∃ k : Fin 3 × Fin 8, ix4 k.1 k.2 n d = i := by
  constructor
  · intro e
    refine ⟨(i 0, i 1), ?_⟩
    funext a
    fin_cases a
    · rfl
    · rfl
    · exact (congrFun e 0).symm
    · exact (congrFun e 1).symm
  · rintro ⟨k, rfl⟩
    funext a
    fin_cases a <;> rfl

/-- The weighted sum, element by element. -/
theorem total_at (W : FVec Ideal S3x256x8 .f32) (Q : FVec Ideal S3x8x256x3072 .f32) (n : Fin 256) (d : Fin 768) :
    total A5 A6 W Q (ix2 n d) = ∑ v : Fin 3, ∑ e : Fin 8,
      W (ix3 v n e) * ((∑ f : Fin 3072, A5 (ix3 e f d) * Q (ix4 v e n f)) + A6 (ix2 e d)) := by
  unfold total
  rw [ValueIdx.hostReduceAdd_apply]
  unfold Ideal.hostReduceAdd
  rw [Finset.sum_filter_eq_sum_of_fiber _ (fun k : Fin 3 × Fin 8 => (ix4 k.1 k.2 n d : S3x8x256x768.Idx))
    (fun _ _ e => Prod.ext (congrFun e 0) (congrFun e 1)) (fiber01 _ n d), Fintype.sum_prod_type]
  have h0 : ∀ i, (constant S_ .f32 0x00000000#32 : FVec Ideal S_ .f32) i = 0 := fun i => by pointwise
  rw [h0, zero_add]
  refine Finset.sum_congr rfl fun v _ => Finset.sum_congr rfl fun e _ => ?_
  pointwise

end Cert.ReferenceIdeal.Hand
-- ==== Proof.Value.Pre.lean ====
module

public import proofs.«01_k».proof.Pre_pre
public import Idealize.ShloMosaic.Lib.ReduceAll
public import Idealize.ShloMosaic.Lib.StableHlo.Predicate
public import Idealize.ShloMosaic.Lib.Pointwise

@[expose] public section

set_option maxRecDepth 16384

noncomputable section

namespace Cert.PreFacts

open Cert.Pre_pre
open Idealize.ShloMosaic

/-- The side conditions of the precondition's operations. -/
instance facts : Cert.Pre_pre.Facts where
  bcast_S_S3x256x768 := by decide
  reducesTo_S3x256x768_S_d0_1_2 := by decide
  h_S_ := by decide
  bcast_S_S8x768 := by decide
  reducesTo_S8x768_S_d0_1 := by decide
  bcast_S_S3x8x768 := by decide
  reducesTo_S3x8x768_S_d0_1_2 := by decide
  bcast_S_S8x3072 := by decide
  reducesTo_S8x3072_S_d0_1 := by decide

/-- A value whose magnitude is below infinity is a real number. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- A value equal to zero is zero. -/
theorem zero_of_eq (x : EReal) (h : Ideal.cmp .oeq x (Ideal.ofBits .f32 0x00000000#32) = 1#1) : x = 0 := by
  have hz : Ideal.ofBits .f32 0x00000000#32 = 0 := by simp [Ideal.ofBits, Ideal.ieee]
  rw [hz] at h
  exact of_decide_eq_true ((StableHlo.Predicate.ofBool_eq_one_iff _).mp h)

/-- Both bits are one when their conjunction is. -/
theorem andi_one (a b : BitVec 1) : IntOp.andi a b = 1#1 ↔ a = 1#1 ∧ b = 1#1 := by revert a b; decide

/-- A scalar has one index. -/
instance : Subsingleton S_.Idx := ⟨fun a b => funext fun i => i.elim0⟩

/-- What the precondition says of the arguments: the views, the keys and the router's weights are real numbers, the biases zero. -/
theorem pre_spec (A0 : FVec Ideal S3x256x768 .f32) (A1 : FVec Ideal S8x768 .f32) (A2 : FVec Ideal S3x8x768 .f32) (A3 : FVec Ideal S8x768x3072 .f32)
    (A4 : FVec Ideal S8x3072 .f32) (A5 : FVec Ideal S8x3072x768 .f32) (A6 : FVec Ideal S8x768 .f32)
    (h : Cert.Pre_pre.fn (F := Ideal) A0 A1 A2 A3 A4 A5 A6 = fun _ => 1#1) :
    (∀ i, ∃ r : ℝ, A0 i = (r : EReal)) ∧ (∀ i, ∃ r : ℝ, A1 i = (r : EReal)) ∧ (∀ i, ∃ r : ℝ, A2 i = (r : EReal))
      ∧ (∀ i, A4 i = (0 : EReal)) ∧ (∀ i, A6 i = (0 : EReal)) := by
  have e := congrFun h (fun a => a.elim0)
  simp only [Cert.Pre_pre.fn, Cert.Pre_pre.fn_part1, andi, andi_one] at e
  obtain ⟨⟨⟨⟨h0, h1⟩, h2⟩, h4⟩, h6⟩ := e
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => zero_of_eq _ (Host.reduce_andi_all _ _ _ _ _ h4 i),
    fun i => zero_of_eq _ (Host.reduce_andi_all _ _ _ _ _ h6 i)⟩

end Cert.PreFacts
-- ==== Proof.Value.Main.lean ====
module

public import proofs.«01_k».proof.Defs
public import proofs.«01_k».proof.Proof.Value.Mem
public import proofs.«01_k».proof.Proof.Value.Ref
public import proofs.«01_k».proof.Proof.Value.Pre

/- The kernel's result is the reference's, at the ideal instance and under the precondition. -/

@[expose] public section

set_option maxRecDepth 16384

noncomputable section

namespace Cert.KernelIdeal.Hand

open Cert.KernelIdeal Cert.KernelIdeal.Gen Cert.Spec
open Idealize.ShloMosaic Idealize.ShloMosaic.TcCoe
open Cert.ReferenceIdeal.Hand (lg)

/-! ## Real numbers among the extended ones -/

/-- The value is a real number. -/
def IsReal (x : EReal) : Prop := ∃ r : ℝ, x = (r : EReal)

/-- A sum of two real numbers is one. -/
theorem IsReal.add {x y : EReal} (hx : IsReal x) (hy : IsReal y) : IsReal (x + y) := by
  obtain ⟨a, rfl⟩ := hx; obtain ⟨b, rfl⟩ := hy; exact ⟨a + b, (EReal.coe_add a b).symm⟩
/-- A difference of two real numbers is one. -/
theorem IsReal.sub {x y : EReal} (hx : IsReal x) (hy : IsReal y) : IsReal (x - y) := by
  obtain ⟨a, rfl⟩ := hx; obtain ⟨b, rfl⟩ := hy; exact ⟨a - b, (EReal.coe_sub a b).symm⟩
/-- A product of two real numbers is one. -/
theorem IsReal.mul {x y : EReal} (hx : IsReal x) (hy : IsReal y) : IsReal (x * y) := by
  obtain ⟨a, rfl⟩ := hx; obtain ⟨b, rfl⟩ := hy; exact ⟨a * b, (EReal.coe_mul a b).symm⟩
/-- Zero is a real number. -/
theorem IsReal.zero : IsReal 0 := ⟨0, EReal.coe_zero.symm⟩
/-- The greater of two real numbers is one. -/
theorem IsReal.max {x y : EReal} (hx : IsReal x) (hy : IsReal y) : IsReal (max x y) := by
  rcases max_choice x y with h | h <;> rw [h] <;> assumption
/-- A finite sum of real numbers is a real number. -/
theorem IsReal.sum {ι : Type} (s : Finset ι) {f : ι → EReal} (h : ∀ i, IsReal (f i)) : IsReal (∑ i ∈ s, f i) :=
  Finset.sum_induction f IsReal (fun _ _ => IsReal.add) IsReal.zero fun i _ => h i
/-- The constant two is a real number. -/
theorem IsReal.two : IsReal (Ideal.ofBits .f32 1073741824#32) := ⟨2, by simp [Ideal.ofBits, Ideal.ieee]; rw [← EReal.coe_mul]; norm_num⟩

/-! ## The two sides, on arrays -/

section

variable (A0 : Vec Ideal S3x256x768 .f32) (A1 : Vec Ideal S8x768 .f32) (A2 : Vec Ideal S3x8x768 .f32)
variable (X : Vec Ideal S768x768 .f32) (R : Vec Ideal S24x768 .f32)

/-- The logits of real arguments are real numbers. -/
theorem lg_real (h0 : ∀ i, IsReal (A0 i)) (h1 : ∀ i, IsReal (A1 i)) (h2 : ∀ i, IsReal (A2 i)) (v : Fin 3) (n : Fin 256) :
    Finite (lg A0 A1 A2 v n) := fun e => by
  unfold lg
  exact (IsReal.zero.sub (IsReal.max (((IsReal.sum _ fun d => (h0 _).mul (h0 _)).add (IsReal.sum _ fun d => (h1 _).mul (h1 _))).sub
    (IsReal.two.mul (IsReal.sum _ fun d => (h0 _).mul (h1 _)))) IsReal.zero)).add (IsReal.sum _ fun d => (h0 _).mul (h2 _))

/-- The kernel's scores are the reference's logits. -/
theorem score_eq (hX : ∀ v n d, X (ix2 (tok v n) d) = A0 (ix3 v n d))
    (hR : ∀ (v : Fin 3) (e : Fin 8) (d : Fin 768), R (ix2 (⟨v.val * 8 + e.val, by omega⟩ : Fin 24) d) = A2 (ix3 v e d))
    (v : Fin 3) (n : Fin 256) : score X A1 R (tok v n) = lg A0 A1 A2 v n := by
  funext e
  have hi : (⟨(tok v n).val / 256 * 8 + e.val, by have := (tok v n).isLt; omega⟩ : Fin 24) = ⟨v.val * 8 + e.val, by omega⟩ := by
    apply Fin.ext
    simp only [tok]
    omega
  unfold score lg
  rw [hi]
  simp only [hX, hR]

/-- Every token is one of a view's. -/
theorem tok_div (i : Fin 768) : ∃ v n, tok v n = i :=
  ⟨⟨i.val / 256, by omega⟩, ⟨i.val % 256, by omega⟩, Fin.ext (by simp only [tok]; omega)⟩

/-- A sum over the hidden units is the sum of its two blocks. -/
theorem sum_hid (g : Fin 3072 → EReal) : ∑ f, g f = ∑ b : Fin 2, ∑ f : Fin 1536, g (hid b f) := by
  rw [← Fintype.sum_prod_type' (fun b f => g (hid b f))]
  refine (Fintype.sum_equiv (finProdFinEquiv (m := 2) (n := 1536)) _ (g : Fin (2 * 1536) → EReal) fun p => congrArg g (Fin.ext ?_)).symm
  simp only [hid, finProdFinEquiv_apply_val]
  omega

/-- A real weight, not negative, times the reference's feed-forward of a token is that weight times each block's half. -/
theorem ffn_eq (W1 : Vec Ideal S8x768x3072 .f32) (W2 : Vec Ideal S8x3072x768 .f32) (A4 : Vec Ideal S8x3072 .f32) (A6 : Vec Ideal S8x768 .f32)
    (h4 : ∀ i, A4 i = (0 : EReal)) (h6 : ∀ i, A6 i = (0 : EReal)) (v : Fin 3) (n : Fin 256) (e : Fin 8) (d : Fin 768) (w : ℝ) (hw : 0 ≤ w) :
    (w : EReal) * ((∑ f : Fin 3072, W2 (ix3 e f d)
        * Cert.ReferenceIdeal.Hand.gelu (Cert.ReferenceIdeal.Hand.hidden A0 W1 A4) (ix4 v e n f)) + A6 (ix2 e d))
      = ∑ b : Fin 2, (w : EReal) * halfAt W1 W2 e b (fun j => A0 (ix3 v n j)) d := by
  have hf : ∀ f : Fin 3072, W2 (ix3 e f d) * Cert.ReferenceIdeal.Hand.gelu (Cert.ReferenceIdeal.Hand.hidden A0 W1 A4) (ix4 v e n f)
      = act (∑ j : Fin 768, A0 (ix3 v n j) * W1 (ix3 e j f)) * W2 (ix3 e f d) := fun f => by
    rw [Cert.ReferenceIdeal.Hand.gelu_at, Cert.ReferenceIdeal.Hand.hidden_at, h4, add_zero, ← gelu_eq, mul_comm]
    unfold act
    simp only [mul_comm]
  rw [h6, add_zero, Finset.sum_congr rfl fun f _ => hf f, sum_hid, Fin.sum_univ_two, Fin.sum_univ_two,
    EReal.left_distrib_of_nonneg_of_ne_top (EReal.coe_nonneg.mpr hw) (EReal.coe_ne_top w)]
  rfl

/-- The parts of all the experts' blocks add up to the reference's total. -/
theorem parts_eq (W1 : Vec Ideal S8x768x3072 .f32) (W2 : Vec Ideal S8x3072x768 .f32) (A4 : Vec Ideal S8x3072 .f32) (A6 : Vec Ideal S8x768 .f32)
    (h0 : ∀ i, IsReal (A0 i)) (h1 : ∀ i, IsReal (A1 i)) (h2 : ∀ i, IsReal (A2 i))
    (h4 : ∀ i, A4 i = (0 : EReal)) (h6 : ∀ i, A6 i = (0 : EReal))
    (hX : ∀ v n d, X (ix2 (tok v n) d) = A0 (ix3 v n d))
    (hR : ∀ (v : Fin 3) (e : Fin 8) (d : Fin 768), R (ix2 (⟨v.val * 8 + e.val, by omega⟩ : Fin 24) d) = A2 (ix3 v e d))
    (n : Fin 256) (d : Fin 768) :
    ∑ e : Fin 8, ∑ b : Fin 2, part X W1 W2 (wt X A1 R) n d e b
      = Cert.ReferenceIdeal.Hand.total W2 A6
          (Cert.ReferenceIdeal.Hand.weights (Cert.ReferenceIdeal.Hand.tops (Cert.ReferenceIdeal.Hand.logits A0 A1 A2)).2
            (Cert.ReferenceIdeal.Hand.gates (Cert.ReferenceIdeal.Hand.tops (Cert.ReferenceIdeal.Hand.logits A0 A1 A2)).1))
          (Cert.ReferenceIdeal.Hand.gelu (Cert.ReferenceIdeal.Hand.hidden A0 W1 A4)) (ix2 n d) := by
  rw [Cert.ReferenceIdeal.Hand.total_at]
  have hv : ∀ (v : Fin 3) (e : Fin 8), Cert.ReferenceIdeal.Hand.weights (Cert.ReferenceIdeal.Hand.tops (Cert.ReferenceIdeal.Hand.logits A0 A1 A2)).2
            (Cert.ReferenceIdeal.Hand.gates (Cert.ReferenceIdeal.Hand.tops (Cert.ReferenceIdeal.Hand.logits A0 A1 A2)).1) (ix3 v n e)
        * ((∑ f : Fin 3072, W2 (ix3 e f d)
          * Cert.ReferenceIdeal.Hand.gelu (Cert.ReferenceIdeal.Hand.hidden A0 W1 A4) (ix4 v e n f)) + A6 (ix2 e d))
      = ∑ b : Fin 2, wt X A1 R (tok v n) e * halfAt W1 W2 e b (fun j => X (ix2 (tok v n) j)) d := fun v e => by
    have hs := score_eq A0 A1 A2 X R hX hR v n
    have hl := lg_real A0 A1 A2 h0 h1 h2 v n
    have ht := top_spec X A1 R (tok v n)
    rw [hs] at ht
    rw [Cert.ReferenceIdeal.Hand.weights_at A0 A1 A2 v n e hl ht]
    unfold wt
    rw [hs]
    obtain ⟨w, hw, hw0, -⟩ := gate_real hl (topA X A1 R (tok v n)) (topB X A1 R (tok v n)) e
    rw [hw, ffn_eq A0 W1 W2 A4 A6 h4 h6 v n e d w hw0]
    simp only [hX]
  refine Eq.trans ?_ (Finset.sum_congr rfl fun v _ => Finset.sum_congr rfl fun e _ => (hv v e).symm)
  refine Eq.trans (Finset.sum_congr rfl fun e _ => ?_) Finset.sum_comm
  unfold part
  rw [Finset.sum_comm]

end

/-! ## The kernel's run -/

variable (m : (ℓ : Loc nD τ sig) → Buf (Elt Ideal) ℓ) (ρ : Dev nD → PrngReg)

/-- The kernel's result. -/
def result (c : Dev nD) : Buf (Elt Ideal) ((c.tc : Thread nD τ).loc main_v13) := W4 m ρ c main_v13

/-- The kernel runs, ends with its result, and leaves its arguments as they were. -/
theorem run_result : θ_run (defs (F := Ideal)) (onTc (τ := τ) (main (F := Ideal))) ⟨m, fun _ => 0, ρ⟩ (fun r => ∀ c : Dev nD,
      r.2.mem ((c.tc : Thread nD τ).loc main_v13) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨h.1 c _ (mem_uc main_v13 (by decide)),
       (h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c),
       (h.1 c _ (mem_uc main_arg5 (by decide))).trans (W4_main_arg5 m ρ c),
       (h.1 c _ (mem_uc main_arg6 (by decide))).trans (W4_main_arg6 m ρ c)⟩) (run_all m ρ)

/-- Under the precondition, from the same arguments, the kernel's result is the reference's. -/
theorem result_eq (m' : (ℓ : Loc Cert.ReferenceIdeal.nD Cert.ReferenceIdeal.τ Cert.ReferenceIdeal.sig) → Buf (Elt Ideal) ℓ)
    (hp : Cert.Pre_KernelIdeal_pre m)
    (ha : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6))
    (c : Dev nD) : result m ρ c = Cert.ReferenceIdeal.Value.res_main_v56 m' c := by
  obtain ⟨a0, a1, a2, a3, a4, a5, a6⟩ := ha c
  obtain ⟨h0, h1, h2, h4, h6⟩ := Cert.PreFacts.pre_spec _ _ _ _ _ _ _ (hp c)
  have hX := xs_val m ρ c
  have hR := rs_val m ρ c
  have hl : ∀ i, Finite (score (xs m ρ c) (ks m ρ c) (rs m ρ c) i) := fun i => by
    obtain ⟨v, n, rfl⟩ := tok_div i
    rw [ks_val, score_eq _ _ _ _ _ hX hR v n]
    exact lg_real _ _ _ h0 h1 h2 v n
  refine Eq.trans ?_ (Cert.ReferenceIdeal.Hand.res_eq m' c).symm
  rw [a0, a1, a2, a3, a4, a5, a6]
  funext y
  rw [eq_ix2 y]
  refine (v13_val m ρ c hl (y 0) (y 1)).trans ?_
  rw [ks_val]
  exact parts_eq _ _ _ _ _ _ _ _ _ h0 h1 h2 h4 h6 hX hR (y 0) (y 1)

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Word.Run
public import proofs.«01_k».proof.Proof.Ideal.Run
public import proofs.«01_k».proof.Proof.Value.Main
public import Idealize.ShloMosaic.Adequacy
public import Idealize.ShloMosaic.Init

@[expose] public section

noncomputable section

namespace Cert.Proof

open Idealize.ShloMosaic Idealize.SL.Sem

/-- The reference runs, leaves its arguments as they were and every counter at zero. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- The kernel and the reference, at the ideal instance and under the precondition, end with the same result. -/
theorem algebraic : Cert.algebraic_KernelIdeal_ReferenceIdeal_pre_pre := fun m ρ m' ρ' hp ha =>
  ⟨fun c => Cert.KernelIdeal.Hand.result m ρ c,
    (θ_run Cert.KernelIdeal.defs _ _).mono (fun _ h => h) (Cert.KernelIdeal.Hand.run_result m ρ),
    (θ_run Cert.ReferenceIdeal.defs _ _).mono
      (fun _ h c => ⟨(h c).1.trans (Cert.KernelIdeal.Hand.result_eq m ρ m' hp ha c).symm, (h c).2⟩)
      (Cert.ReferenceIdeal.Value.run m' ρ')⟩

/-- Every claim of the certificate. -/
theorem claim : Cert.Claim :=
  ⟨Cert.Kernel.Gen.facts, Cert.KernelIdeal.Gen.facts, Cert.ReferenceIdeal.Gen.facts, Cert.PreFacts.facts,
    fun m ρ _ => Cert.Kernel.Hand.frame m ρ,
    fun m ρ _ => Cert.KernelIdeal.Hand.frame m ρ,
    fun m ρ _ => Cert.KernelIdeal.Hand.frame m ρ,
    frame_reference,
    fun m ρ _ => frame_reference m ρ trivial,
    trivial, algebraic⟩

end Cert.Proof

end
